-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_KernelIdeal_ReferenceIdeal_on_latents [hKernelIdeal : Cert.KernelIdeal.Facts] [hReferenceIdeal : Cert.ReferenceIdeal.Facts] [hOn_latents : Cert.On_latents.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 3, 224, 224]⟩ : Shape).Idx, (Cert.On_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v14) i = v0 c i)
          ∧ (∀ i : (⟨4, ![8, 64, 56, 56]⟩ : Shape).Idx, (Cert.On_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v12) i = v1 c i)
          ∧ (∀ i : (⟨4, ![8, 64, 56, 56]⟩ : Shape).Idx, (Cert.On_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.KernelIdeal.nD Cert.KernelIdeal.τ).loc Cert.KernelIdeal.main_v11) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 3, 224, 224]⟩ : Shape).Idx, (Cert.On_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v34) i = v0 c i)
          ∧ (∀ i : (⟨4, ![8, 64, 56, 56]⟩ : Shape).Idx, (Cert.On_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v6) i = v1 c i)
          ∧ (∀ i : (⟨4, ![8, 64, 56, 56]⟩ : Shape).Idx, (Cert.On_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.ReferenceIdeal.nD Cert.ReferenceIdeal.τ).loc Cert.ReferenceIdeal.main_v25) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts) (hOn_latents : Cert.On_latents.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_ReferenceIdeal_on_latents (hKernelIdeal := hKernelIdeal) (hReferenceIdeal := hReferenceIdeal) (hOn_latents := hOn_latents)
-- ==== On_latents.lean ====
abbrev S8x3x224x224 : Shape := ⟨4, ![8, 3, 224, 224]⟩
abbrev S64x3x4x4 : Shape := ⟨4, ![64, 3, 4, 4]⟩
abbrev S64 : Shape := ⟨1, ![64]⟩
abbrev S1024x64 : Shape := ⟨2, ![1024, 64]⟩
abbrev S3x64x4x4 : Shape := ⟨4, ![3, 64, 4, 4]⟩
abbrev S3 : Shape := ⟨1, ![3]⟩
abbrev S_ : Shape := ⟨0, ![]⟩
abbrev S8x64x56x56 : Shape := ⟨4, ![8, 64, 56, 56]⟩

class Facts : Prop where
  bcast_S_S8x3x224x224 : S_.BroadcastsInDim S8x3x224x224 (![] : Fin 0 → Fin S8x3x224x224.rank)
  bcast_S_S8x64x56x56 : S_.BroadcastsInDim S8x64x56x56 (![] : Fin 0 → Fin S8x64x56x56.rank)

variable [Facts]

def fn {F : FTy → Type} [FloatOps F] (main_arg0 : FVec F S8x3x224x224 .f32) (main_arg1 : FVec F S64x3x4x4 .f32) (main_arg2 : FVec F S64 .f32) (main_arg3 : FVec F S1024x64 .f32) (main_arg4 : FVec F S3x64x4x4 .f32) (main_arg5 : FVec F S3 .f32) : IVec S8x3x224x224 1 × IVec S8x64x56x56 1 × IVec S8x64x56x56 1 :=
  let main_c : IVec S_ 1 := constantI S_ 1 0#1
  let main_v0 : IVec S8x3x224x224 1 := broadcastInDim S8x3x224x224 ![] bcast_S_S8x3x224x224 main_c
  let main_c_0 : IVec S_ 1 := constantI S_ 1 1#1
  let main_v1 : IVec S8x64x56x56 1 := broadcastInDim S8x64x56x56 ![] bcast_S_S8x64x56x56 main_c_0
  let main_c_1 : IVec S_ 1 := constantI S_ 1 1#1
  let main_v2 : IVec S8x64x56x56 1 := broadcastInDim S8x64x56x56 ![] bcast_S_S8x64x56x56 main_c_1
  (main_v0, main_v1, main_v2)
-- ==== Pre_finite.lean ====
abbrev S8x3x224x224 : Shape := ⟨4, ![8, 3, 224, 224]⟩
abbrev S64x3x4x4 : Shape := ⟨4, ![64, 3, 4, 4]⟩
abbrev S64 : Shape := ⟨1, ![64]⟩
abbrev S1024x64 : Shape := ⟨2, ![1024, 64]⟩
abbrev S3x64x4x4 : Shape := ⟨4, ![3, 64, 4, 4]⟩
abbrev S3 : Shape := ⟨1, ![3]⟩
abbrev S_ : Shape := ⟨0, ![]⟩

class Facts : Prop where
  bcast_S_S8x3x224x224 : S_.BroadcastsInDim S8x3x224x224 (![] : Fin 0 → Fin S8x3x224x224.rank)
  bcast_S_S64x3x4x4 : S_.BroadcastsInDim S64x3x4x4 (![] : Fin 0 → Fin S64x3x4x4.rank)
  bcast_S_S64 : S_.BroadcastsInDim S64 (![] : Fin 0 → Fin S64.rank)

variable [Facts]

def fn {F : FTy → Type} [FloatOps F] (main_arg0 : FVec F S8x3x224x224 .f32) (main_arg1 : FVec F S64x3x4x4 .f32) (main_arg2 : FVec F S64 .f32) (main_arg3 : FVec F S1024x64 .f32) (main_arg4 : FVec F S3x64x4x4 .f32) (main_arg5 : FVec F S3 .f32) : IVec S8x3x224x224 1 × IVec S64x3x4x4 1 × IVec S64 1 :=
  let main_v0 : FVec F S8x3x224x224 .f32 := Host.absf main_arg0
  let main_cst : FVec F S_ .f32 := constant S_ .f32 0x7F800000#32
  let main_v1 : FVec F S8x3x224x224 .f32 := broadcastInDim S8x3x224x224 ![] bcast_S_S8x3x224x224 main_cst
  let main_v2 : IVec S8x3x224x224 1 := cmpf .olt main_v0 main_v1
  let main_v3 : FVec F S64x3x4x4 .f32 := Host.absf main_arg1
  let main_cst_0 : FVec F S_ .f32 := constant S_ .f32 0x7F800000#32
  let main_v4 : FVec F S64x3x4x4 .f32 := broadcastInDim S64x3x4x4 ![] bcast_S_S64x3x4x4 main_cst_0
  let main_v5 : IVec S64x3x4x4 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Kernel.lean ====
abbrev S8x3x224x224 : Shape := ⟨4, ![8, 3, 224, 224]⟩
abbrev S64x3x4x4 : Shape := ⟨4, ![64, 3, 4, 4]⟩
abbrev S64 : Shape := ⟨1, ![64]⟩
abbrev S1024x64 : Shape := ⟨2, ![1024, 64]⟩
abbrev S3x64x4x4 : Shape := ⟨4, ![3, 64, 4, 4]⟩
abbrev S3 : Shape := ⟨1, ![3]⟩
abbrev S64x48 : Shape := ⟨2, ![64, 48]⟩
abbrev S48x64 : Shape := ⟨2, ![48, 64]⟩
abbrev S1x64 : Shape := ⟨2, ![1, 64]⟩
abbrev S3x16 : Shape := ⟨2, ![3, 16]⟩
abbrev S48 : Shape := ⟨1, ![48]⟩
abbrev S48x1 : Shape := ⟨2, ![48, 1]⟩
abbrev S8x64x3136 : Shape := ⟨3, ![8, 64, 3136]⟩
abbrev S25088x64 : Shape := ⟨2, ![25088, 64]⟩
abbrev S1x3x224x224 : Shape := ⟨4, ![1, 3, 224, 224]⟩
abbrev S1x64x3136 : Shape := ⟨3, ![1, 64, 3136]⟩
abbrev S3136x64 : Shape := ⟨2, ![3136, 64]⟩
abbrev S3136x48 : Shape := ⟨2, ![3136, 48]⟩
abbrev S1x1024 : Shape := ⟨2, ![1, 1024]⟩
abbrev S3x224x224 : Shape := ⟨3, ![3, 224, 224]⟩
abbrev S3x56x4x56x4 : Shape := ⟨5, ![3, 56, 4, 56, 4]⟩
abbrev S56x56x3x4x4 : Shape := ⟨5, ![56, 56, 3, 4, 4]⟩
abbrev S784x48 : Shape := ⟨2, ![784, 48]⟩
abbrev S784x64 : Shape := ⟨2, ![784, 64]⟩
abbrev S784x1024 : Shape := ⟨2, ![784, 1024]⟩
abbrev S784 : Shape := ⟨1, ![784]⟩
abbrev S784x1 : Shape := ⟨2, ![784, 1]⟩
abbrev S64x3136 : Shape := ⟨2, ![64, 3136]⟩
abbrev S8x64x56x56 : Shape := ⟨4, ![8, 64, 56, 56]⟩
abbrev S48x3136 : Shape := ⟨2, ![48, 3136]⟩
abbrev S3x4x4x56x56 : Shape := ⟨5, ![3, 4, 4, 56, 56]⟩

abbrev nBuf : Space → Nat
  | .hbm => 22
  | .vmem => 16
  | .smem => 0
  | _ => 0

abbrev bufTy : (tb : Table) → Fin (tcTables nBuf tb) → BufTy
  | .hbm, ⟨0, _⟩ => ⟨S8x3x224x224, .f32⟩
  | .hbm, ⟨1, _⟩ => ⟨S64x3x4x4, .f32⟩
  | .hbm, ⟨2, _⟩ => ⟨S64, .f32⟩
  | .hbm, ⟨3, _⟩ => ⟨S1024x64, .f32⟩
  | .hbm, ⟨4, _⟩ => ⟨S3x64x4x4, .f32⟩
  | .hbm, ⟨5, _⟩ => ⟨S3, .f32⟩
  | .hbm, ⟨6, _⟩ => ⟨S64x48, .f32⟩
  | .hbm, ⟨7, _⟩ => ⟨S48x64, .f32⟩
  | .hbm, ⟨8, _⟩ => ⟨S1x64, .f32⟩
  | .hbm, ⟨9, _⟩ => ⟨S3x64x4x4, .f32⟩
  | .hbm, ⟨10, _⟩ => ⟨S64x3x4x4, .f32⟩
  | .hbm, ⟨11, _⟩ => ⟨S64x48, .f32⟩
  | .hbm, ⟨12, _⟩ => ⟨S48x64, .f32⟩
  | .hbm, ⟨13, _⟩ => ⟨S3x16, .f32⟩
  | .hbm, ⟨14, _⟩ => ⟨S48, .f32⟩
  | .hbm, ⟨15, _⟩ => ⟨S48x1, .f32⟩
  | .hbm, ⟨16, _⟩ => ⟨S8x64x3136, .f32⟩
  | .hbm, ⟨17, _⟩ => ⟨S25088x64, .f32⟩
  | .hbm, ⟨18, _⟩ => ⟨S8x64x56x56, .f32⟩
  | .hbm, ⟨19, _⟩ => ⟨S8x64x56x56, .f32⟩
  | .hbm, ⟨20, _⟩ => ⟨S8x64x3136, .f32⟩
  | .hbm, ⟨21, _⟩ => ⟨S8x3x224x224, .f32⟩
  | .local _ .vmem, ⟨0, _⟩ => ⟨S1x3x224x224, .f32⟩
  | .local _ .vmem, ⟨1, _⟩ => ⟨S1x3x224x224, .f32⟩
  | .local _ .vmem, ⟨2, _⟩ => ⟨S48x64, .f32⟩
  | .local _ .vmem, ⟨3, _⟩ => ⟨S1x64, .f32⟩
  | .local _ .vmem, ⟨4, _⟩ => ⟨S1024x64, .f32⟩
  | .local _ .vmem, ⟨5, _⟩ => ⟨S1x64x3136, .f32⟩
  | .local _ .vmem, ⟨6, _⟩ => ⟨S1x64x3136, .f32⟩
  | .local _ .vmem, ⟨7, _⟩ => ⟨S3136x64, .f32⟩
  | .local _ .vmem, ⟨8, _⟩ => ⟨S3136x64, .f32⟩
  | .local _ .vmem, ⟨9, _⟩ => ⟨S3136x48, .f32⟩
  | .local _ .vmem, ⟨10, _⟩ => ⟨S1x64x3136, .f32⟩
  | .local _ .vmem, ⟨11, _⟩ => ⟨S1x64x3136, .f32⟩
  | .local _ .vmem, ⟨12, _⟩ => ⟨S48x64, .f32⟩
  | .local _ .vmem, ⟨13, _⟩ => ⟨S48x1, .f32⟩
  | .local _ .vmem, ⟨14, _⟩ => ⟨S1x3x224x224, .f32⟩
  | .local _ .vmem, ⟨15, _⟩ => ⟨S1x3x224x224, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x3136 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3136x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S48x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S48x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x3x224x224 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8x3x224x224 : Shape := ⟨4, ![8, 3, 224, 224]⟩
abbrev S64x3x4x4 : Shape := ⟨4, ![64, 3, 4, 4]⟩
abbrev S64 : Shape := ⟨1, ![64]⟩
abbrev S1024x64 : Shape := ⟨2, ![1024, 64]⟩
abbrev S3x64x4x4 : Shape := ⟨4, ![3, 64, 4, 4]⟩
abbrev S3 : Shape := ⟨1, ![3]⟩
abbrev S8x3x56x4x56x4 : Shape := ⟨6, ![8, 3, 56, 4, 56, 4]⟩
abbrev S64x8x56x56 : Shape := ⟨4, ![64, 8, 56, 56]⟩
abbrev S8x64x56x56 : Shape := ⟨4, ![8, 64, 56, 56]⟩
abbrev S1x64x1x1 : Shape := ⟨4, ![1, 64, 1, 1]⟩
abbrev S_ : Shape := ⟨0, ![]⟩
abbrev S8x56x56x64 : Shape := ⟨4, ![8, 56, 56, 64]⟩
abbrev S25088x64 : Shape := ⟨2, ![25088, 64]⟩
abbrev S25088 : Shape := ⟨1, ![25088]⟩
abbrev S25088x1 : Shape := ⟨2, ![25088, 1]⟩
abbrev S1024 : Shape := ⟨1, ![1024]⟩
abbrev S1x1024 : Shape := ⟨2, ![1, 1024]⟩
abbrev S25088x1024 : Shape := ⟨2, ![25088, 1024]⟩
abbrev S64x1024 : Shape := ⟨2, ![64, 1024]⟩
abbrev S1 : Shape := ⟨1, ![1]⟩
abbrev S1x1 : Shape := ⟨2, ![1, 1]⟩
abbrev S3x4x4x8x56x56 : Shape := ⟨6, ![3, 4, 4, 8, 56, 56]⟩
abbrev S1x3x1x1 : Shape := ⟨4, ![1, 3, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S8x3x224x224, .f32⟩
  | .hbm, ⟨1, _⟩ => ⟨S64x3x4x4, .f32⟩
  | .hbm, ⟨2, _⟩ => ⟨S64, .f32⟩
  | .hbm, ⟨3, _⟩ => ⟨S1024x64, .f32⟩
  | .hbm, ⟨4, _⟩ => ⟨S3x64x4x4, .f32⟩
  | .hbm, ⟨5, _⟩ => ⟨S3, .f32⟩
  | .hbm, ⟨6, _⟩ => ⟨S8x3x56x4x56x4, .f32⟩
  | .hbm, ⟨7, _⟩ => ⟨S64x8x56x56, .f32⟩
  | .hbm, ⟨8, _⟩ => ⟨S8x64x56x56, .f32⟩
  | .hbm, ⟨9, _⟩ => ⟨S1x64x1x1, .f32⟩
  | .hbm, ⟨10, _⟩ => ⟨S8x64x56x56, .f32⟩
  | .hbm, ⟨11, _⟩ => ⟨S8x64x56x56, .f32⟩
  | .hbm, ⟨12, _⟩ => ⟨S_, .f32⟩
  | .hbm, ⟨13, _⟩ => ⟨S8x64x56x56, .f32⟩
  | .hbm, ⟨14, _⟩ => ⟨S8x64x56x56, .f32⟩
  | .hbm, ⟨15, _⟩ => ⟨S8x56x56x64, .f32⟩
  | .hbm, ⟨16, _⟩ => ⟨S25088x64, .f32⟩
  | .hbm, ⟨17, _⟩ => ⟨S25088x64, .f32⟩
  | .hbm, ⟨18, _⟩ => ⟨S_, .f32⟩
  | .hbm, ⟨19, _⟩ => ⟨S25088, .f32⟩
  | .hbm, ⟨20, _⟩ => ⟨S25088x1, .f32⟩
  | .hbm, ⟨21, _⟩ => ⟨S1024x64, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S25088x1024, .f32⟩
  | .hbm, ⟨26, _⟩ => ⟨S25088x1024, .f32⟩
  | .hbm, ⟨27, _⟩ => ⟨S25088x1024, .f32⟩
  | .hbm, ⟨28, _⟩ => ⟨S64x1024, .f32⟩
  | .hbm, ⟨29, _⟩ => ⟨S25088x1024, .f32⟩
  | .hbm, ⟨30, _⟩ => ⟨S_, .f32⟩
  | .hbm, ⟨31, _⟩ => ⟨S25088x1024, .f32⟩
  | .hbm, ⟨32, _⟩ => ⟨S25088x1024, .f32⟩
  | .hbm, ⟨33, _⟩ => ⟨S25088x1024, .f32⟩
  | .hbm, ⟨34, _⟩ => ⟨S25088x1024, .i32⟩
  | .hbm, ⟨35, _⟩ => ⟨S_, .f32⟩
  | .hbm, ⟨36, _⟩ => ⟨S_, .i32⟩
  | .hbm, ⟨37, _⟩ => ⟨S25088, .f32⟩
  | .hbm, ⟨38, _⟩ => ⟨S25088, .i32⟩
  | .hbm, ⟨39, _⟩ => ⟨S_, .i32⟩
  | .hbm, ⟨40, _⟩ => ⟨S25088, .i32⟩
  | .hbm, ⟨41, _⟩ => ⟨S25088, .i1⟩
  | .hbm, ⟨42, _⟩ => ⟨S_, .i32⟩
  | .hbm, ⟨43, _⟩ => ⟨S25088, .i32⟩
  | .hbm, ⟨44, _⟩ => ⟨S25088, .i32⟩
  | .hbm, ⟨45, _⟩ => ⟨S25088, .i32⟩
  | .hbm, ⟨46, _⟩ => ⟨S25088x1, .i32⟩
  | .hbm, ⟨47, _⟩ => ⟨S1, .i32⟩
  | .hbm, ⟨48, _⟩ => ⟨S_, .i32⟩
  | .hbm, ⟨49, _⟩ => ⟨S25088x1, .i32⟩
  | .hbm, ⟨50, _⟩ => ⟨S25088x1, .i1⟩
  | .hbm, ⟨51, _⟩ => ⟨S1x1, .i32⟩
  | .hbm, ⟨52, _⟩ => ⟨S25088x1, .i32⟩
  | .hbm, ⟨53, _⟩ => ⟨S25088x1, .i1⟩
  | .hbm, ⟨54, _⟩ => ⟨S25088x1, .i1⟩
  | .hbm, ⟨55, _⟩ => ⟨S_, .i1⟩
  | .hbm, ⟨56, _⟩ => ⟨S25088, .i1⟩
  | .hbm, ⟨57, _⟩ => ⟨S25088x64, .f32⟩
  | .hbm, ⟨58, _⟩ => ⟨S25088x64, .i1⟩
  | .hbm, ⟨59, _⟩ => ⟨S_, .f32⟩
  | .hbm, ⟨60, _⟩ => ⟨S25088x64, .f32⟩
  | .hbm, ⟨61, _⟩ => ⟨S25088x64, .f32⟩
  | .hbm, ⟨62, _⟩ => ⟨S8x64x56x56, .f32⟩
  | .hbm, ⟨63, _⟩ => ⟨S8x64x56x56, .f32⟩
  | .hbm, ⟨64, _⟩ => ⟨S8x64x56x56, .f32⟩
  | .hbm, ⟨65, _⟩ => ⟨S3x64x4x4, .f32⟩
  | .hbm, ⟨66, _⟩ => ⟨S3x4x4x8x56x56, .f32⟩
  | .hbm, ⟨67, _⟩ => ⟨S8x3x56x4x56x4, .f32⟩
  | .hbm, ⟨68, _⟩ => ⟨S8x3x224x224, .f32⟩
  | .hbm, ⟨69, _⟩ => ⟨S1x3x1x1, .f32⟩
  | .hbm, ⟨70, _⟩ => ⟨S8x3x224x224, .f32⟩
  | .hbm, ⟨71, _⟩ => ⟨S8x3x224x224, .f32⟩
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_v0 : Ref sig .tc := ⟨.hbm, 34, rfl⟩
abbrev main_call1_cst : Ref sig .tc := ⟨.hbm, 35, rfl⟩
abbrev main_call1_c : Ref sig .tc := ⟨.hbm, 36, rfl⟩
abbrev main_call1_v1_0 : Ref sig .tc := ⟨.hbm, 37, rfl⟩
abbrev main_v23 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_call2_cst : Ref sig .tc := ⟨.hbm, 59, rfl⟩
abbrev main_call2_v15 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩

abbrev nD : Nat := 1
abbrev τ : Topo := Topo.v7x

variable {F : FTy → Type} [FloatOps F]
-- ==== Proof.Vq.KernelRun.lean ====
module

public import proofs.«01_k».proof.Proof.Gen.KernelIdeal.Frame
public import Idealize.ShloMosaic.Lib.Claim

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel: every buffer it does not scope ends at the contents of the last segment boundary. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The result `z` is the first kernel's transposed latents, reshaped. -/
theorem W4_z (c : Dev nD) : W4 m ρ c (Proc.devRef .tc main_v12)
    = shapeCast S8x64x56x56 ((dat0 (V1 m ρ) c).arrAt 4 cfg0.N) shapeCasts_S8x64x3136_S8x64x56x56 := by
  rw [W4_of m ρ c main_v12 (by decide)]
  rw [← W2_arr m ρ c 4]
  show StableHlo.after hostOps1 (W2 m ρ c) (Proc.devRef .tc main_v12) = _
  after_results
  rfl

/-- The result `z_q` is the first kernel's chosen codebook rows, reshaped. -/
theorem W4_zq (c : Dev nD) : W4 m ρ c (Proc.devRef .tc main_v11)
    = shapeCast S8x64x56x56 ((dat0 (V1 m ρ) c).arrAt 5 cfg0.N) shapeCasts_S25088x64_S8x64x56x56 := by
  rw [W4_of m ρ c main_v11 (by decide)]
  rw [← W2_arr m ρ c 5]
  show StableHlo.after hostOps1 (W2 m ρ c) (Proc.devRef .tc main_v11) = _
  after_results
  rfl

/-- The decoder reads the chosen codebook rows as 64 planes of 3136 pixels an image. -/
theorem V3_zt (c : Dev nD) : V3 m ρ c main_v13
    = shapeCast S8x64x3136 ((dat0 (V1 m ρ) c).arrAt 5 cfg0.N) shapeCasts_S25088x64_S8x64x3136 := by
  rw [← W2_arr m ρ c 5]
  show StableHlo.after hostOps1 (W2 m ρ c) (Proc.devRef .tc main_v13) = _
  after_results
  rfl

/-- The encoder's weights, as the first kernel reads them. -/
theorem V1_w (c : Dev nD) : V1 m ρ c main_v1
    = transpose S48x64 [1, 0] (shapeCast S64x48 (m ((c : Thread nD τ).loc main_arg1)) shapeCasts_S64x3x4x4_S64x48) transposes_S64x48_S48x64_1_0 := by
  show StableHlo.after hostOps0 (W0 m ρ c) (Proc.devRef .tc main_v1) = _
  after_results
  rfl

/-- The encoder's bias, as the first kernel reads it. -/
theorem V1_b (c : Dev nD) : V1 m ρ c main_v2 = shapeCast S1x64 (m ((c : Thread nD τ).loc main_arg2)) shapeCasts_S64_S1x64 := by
  show StableHlo.after hostOps0 (W0 m ρ c) (Proc.devRef .tc main_v2) = _
  after_results
  rfl

/-- The decoder's weights, as the second kernel reads them. -/
theorem V3_w (c : Dev nD) : V3 m ρ c main_v6
    = transpose S48x64 [1, 0] (shapeCast S64x48 (transpose S64x3x4x4 [1, 0, 2, 3] (Host.reverse [2, 3] (m ((c : Thread nD τ).loc main_arg4)))
        transposes_S3x64x4x4_S64x3x4x4_1_0_2_3) shapeCasts_S64x3x4x4_S64x48) transposes_S64x48_S48x64_1_0 := by
  show W3 m ρ c (Proc.devRef .tc main_v6) = _
  rw [W3_of m ρ c main_v6 (by decide), W2_of m ρ c main_v6 (by decide)]
  show StableHlo.after hostOps0 (W0 m ρ c) (Proc.devRef .tc main_v6) = _
  after_results
  rfl

/-- The decoder's bias, as the second kernel reads it. -/
theorem V3_b (c : Dev nD) : V3 m ρ c main_v9
    = shapeCast S48x1 (shapeCast S48 (broadcastInDim S3x16 ![0] bcast_S3_S3x16_0 (m ((c : Thread nD τ).loc main_arg5))) shapeCasts_S3x16_S48) shapeCasts_S48_S48x1 := by
  show W3 m ρ c (Proc.devRef .tc main_v9) = _
  rw [W3_of m ρ c main_v9 (by decide), W2_of m ρ c main_v9 (by decide)]
  show StableHlo.after hostOps0 (W0 m ρ c) (Proc.devRef .tc main_v9) = _
  after_results
  rfl

/-- The images, as the first kernel reads them. -/
theorem V1_x (c : Dev nD) : V1 m ρ c main_arg0 = m ((c : Thread nD τ).loc main_arg0) := W1_args m ρ c main_arg0 (by decide)

/-- The codebook, as the first kernel reads it. -/
theorem V1_e (c : Dev nD) : V1 m ρ c main_arg3 = m ((c : Thread nD τ).loc main_arg3) := W1_args m ρ c main_arg3 (by decide)

/-- The result `out` is what the second kernel leaves. -/
theorem W4_out (c : Dev nD) : W4 m ρ c (Proc.devRef .tc main_v14) = (dat1 (V3 m ρ) c).arrAt 3 cfg1.N := W4_arr m ρ c 3

end Cert.KernelIdeal.Vq

end
-- ==== Proof.Vq.RefRun.lean ====
module

public import proofs.«01_k».proof.Defs
public import proofs.«01_k».proof.Proof.Gen.ReferenceIdeal
public import Idealize.ShloMosaic.Lib.Claim

@[expose] public section

set_option maxRecDepth 16384

noncomputable section

namespace Cert.ReferenceIdeal.Vq

open Idealize.ShloMosaic Idealize.ShloMosaic.TcCoe Idealize.SL.Sem
open Cert.ReferenceIdeal Cert.ReferenceIdeal.Facts Cert.ReferenceIdeal.Gen

/-- The reference's latents: the patch contraction with the encoder's weights, the bias, the cut at zero. -/
def refZ (x : FVec Ideal S8x3x224x224 .f32) (w : FVec Ideal S64x3x4x4 .f32) (b : FVec Ideal S64 .f32) : FVec Ideal S8x64x56x56 .f32 :=
  maximumf (addf (transpose S8x64x56x56 [1, 0, 2, 3]
      (Host.dotGeneral dot_S64x3x4x4_S8x3x56x4x56x4_S64x8x56x56_123_135_0_024_n_n none w
        (shapeCast S8x3x56x4x56x4 x shapeCasts_S8x3x224x224_S8x3x56x4x56x4)) transposes_S64x8x56x56_S8x64x56x56_1_0_2_3)
      (broadcastInDim S8x64x56x56 ![0, 1, 2, 3] bcast_S1x64x1x1_S8x64x56x56_0_1_2_3
        (broadcastInDim S1x64x1x1 ![1] bcast_S64_S1x64x1x1_1 b)))
    (broadcastInDim S8x64x56x56 ![] bcast_S_S8x64x56x56 (constant S_ .f32 0x00000000#32))

/-- The latents as one row of 64 channels a pixel. -/
def refFlat (z : FVec Ideal S8x64x56x56 .f32) : FVec Ideal S25088x64 .f32 :=
  shapeCast S25088x64 (transpose S8x56x56x64 [0, 2, 3, 1] z transposes_S8x64x56x56_S8x56x56x64_0_2_3_1) shapeCasts_S8x56x56x64_S25088x64

/-- The squared distance of every pixel's row from every codebook row, expanded. -/
def refDist (f : FVec Ideal S25088x64 .f32) (e : FVec Ideal S1024x64 .f32) : FVec Ideal S25088x1024 .f32 :=
  subf (addf
      (broadcastInDim S25088x1024 ![0, 1] bcast_S25088x1_S25088x1024_0_1 (broadcastInDim S25088x1 ![0] bcast_S25088_S25088x1_0
        (Host.reduceAdd (mulf f f) (constant S_ .f32 0x00000000#32) reducesTo_S25088x64_S25088_d1 h_S_)))
      (broadcastInDim S25088x1024 ![0, 1] bcast_S1x1024_S25088x1024_0_1 (broadcastInDim S1x1024 ![1] bcast_S1024_S1x1024_1
        (Host.reduceAdd (mulf e e) (constant S_ .f32 0x00000000#32) reducesTo_S1024x64_S1024_d1 h_S_))))
    (mulf (broadcastInDim S25088x1024 ![] bcast_S_S25088x1024 (constant S_ .f32 0x40000000#32))
      (Host.dotGeneral dot_S25088x64_S64x1024_S25088x1024_1_0_0_1_n_n none f
        (transpose S64x1024 [1, 0] e transposes_S1024x64_S64x1024_1_0)))

/-- The number of the nearest codebook row. -/
def refIdx (d : FVec Ideal S25088x1024 .f32) : IVec S25088 32 :=
  fun j => (Host.argReduce reducer_argmin_f32_i32 d (iotaInDim S25088x1024 32 1) (constant S_ .f32 0x7F800000#32) (constantI S_ 32 0#32)
    reducesTo_S25088x1024_S25088_d1 h_S_ j).2

/-- A row number counted from the end when it is negative. -/
def refWrap (i : IVec S25088 32) : IVec S25088x1 32 :=
  broadcastInDim S25088x1 ![0] bcast_S25088_S25088x1_0
    (select (cmpi .slt i (broadcastInDim S25088 ![] bcast_S_S25088 (constantI S_ 32 0#32)))
      (addi i (broadcastInDim S25088 ![] bcast_S_S25088 (constantI S_ 32 1024#32))) i)

/-- The codebook rows at the given numbers. -/
def refTake (e : FVec Ideal S1024x64 .f32) (i : IVec S25088 32) : FVec Ideal S25088x64 .f32 :=
  select
    (broadcastInDim S25088x64 ![0] bcast_S25088_S25088x64_0
      (Host.reduce IntOp.andi
        (andi (cmpi .sge (refWrap i) (broadcastInDim S25088x1 ![] bcast_S_S25088x1 (constantI S_ 32 0#32)))
          (cmpi .sle (refWrap i) (broadcastInDim S25088x1 ![0, 1] bcast_S1x1_S25088x1_0_1
            (broadcastInDim S1x1 ![1] bcast_S1_S1x1_1 (constantI S1 32 1023#32)))))
        (constantI S_ 1 1#1) reducesTo_S25088x1_S25088_d1 h_S_))
    (Host.gather gather_S1024x64_S25088x1_S25088x64_1_0_n_n_0_1_164 e (refWrap i))
    (broadcastInDim S25088x64 ![] bcast_S_S25088x64 (constant S_ .f32 0x7FC00000#32))

/-- The chosen rows, read in the latents' shape. -/
def refZq (z : FVec Ideal S8x64x56x56 .f32) (e : FVec Ideal S1024x64 .f32) : FVec Ideal S8x64x56x56 .f32 :=
  shapeCast S8x64x56x56 (refTake e (refIdx (refDist (refFlat z) e))) shapeCasts_S25088x64_S8x64x56x56

/-- The decoder on the straight-through latents. -/
def refOut (z zq : FVec Ideal S8x64x56x56 .f32) (w : FVec Ideal S3x64x4x4 .f32) (b : FVec Ideal S3 .f32) : FVec Ideal S8x3x224x224 .f32 :=
  addf
    (shapeCast S8x3x224x224
      (transpose S8x3x56x4x56x4 [3, 0, 4, 1, 5, 2]
        (Host.dotGeneral dot_S3x64x4x4_S8x64x56x56_S3x4x4x8x56x56_1_1_023_023_n_n none (Host.reverse [2, 3] w) (addf z (subf zq z)))
        transposes_S3x4x4x8x56x56_S8x3x56x4x56x4_3_0_4_1_5_2)
      shapeCasts_S8x3x56x4x56x4_S8x3x224x224)
    (broadcastInDim S8x3x224x224 ![0, 1, 2, 3] bcast_S1x3x1x1_S8x3x224x224_0_1_2_3 (broadcastInDim S1x3x1x1 ![1] bcast_S3_S1x3x1x1_1 b))

variable (m : (ℓ : Loc nD τ sig) → Buf (Elt Ideal) ℓ) (ρ : Dev nD → PrngReg)

/-- The latents of the arguments. -/
def zOf (c : Dev nD) : FVec Ideal S8x64x56x56 .f32 :=
  refZ (m ((c : Thread nD τ).loc main_arg0)) (m ((c : Thread nD τ).loc main_arg1)) (m ((c : Thread nD τ).loc main_arg2))

/-- The chosen rows of the arguments. -/
def zqOf (c : Dev nD) : FVec Ideal S8x64x56x56 .f32 := refZq (zOf m c) (m ((c : Thread nD τ).loc main_arg3))

/-- The decoded image of the arguments. -/
def outOf (c : Dev nD) : FVec Ideal S8x3x224x224 .f32 :=
  refOut (zOf m c) (zqOf m c) (m ((c : Thread nD τ).loc main_arg4)) (m ((c : Thread nD τ).loc main_arg5))

section Casts
variable (h1 : _) (h2 : _) (h3 : _)

/-- A call's buffer holds the value given to it. -/
theorem to_v24 (v : FVec Ideal S25088x64 .f32) : (StableHlo.TRef.of (T := ⟨S25088x64, .f32⟩) main_v24 h1 h2 h3).toBuf (Val := Elt Ideal) v = v := rfl
/-- A call's buffer holds the value given to it. -/
theorem to_v6 (v : FVec Ideal S8x64x56x56 .f32) : (StableHlo.TRef.of (T := ⟨S8x64x56x56, .f32⟩) main_v6 h1 h2 h3).toBuf (Val := Elt Ideal) v = v := rfl
/-- A call reads the value its argument holds. -/
theorem of_v5 (v : FVec Ideal S8x64x56x56 .f32) : (StableHlo.TRef.of (T := ⟨S8x64x56x56, .f32⟩) main_v5 h1 h2 h3).ofBuf (Val := Elt Ideal) v = v := rfl
/-- A call reads the value its argument holds. -/
theorem of_v22 (v : FVec Ideal S25088x1024 .f32) : (StableHlo.TRef.of (T := ⟨S25088x1024, .f32⟩) main_v22 h1 h2 h3).ofBuf (Val := Elt Ideal) v = v := rfl
/-- A call reads the value its argument holds. -/
theorem of_arg3 (v : FVec Ideal S1024x64 .f32) : (StableHlo.TRef.of (T := ⟨S1024x64, .f32⟩) main_arg3 h1 h2 h3).ofBuf (Val := Elt Ideal) v = v := rfl

end Casts

set_option maxHeartbeats 3200000 in
/-- The reference's run: its three results are the terms above, its arguments as they began. -/
theorem run : θ_run (defs (F := Ideal)) (onTc (τ := τ) (main (F := Ideal))) ⟨m, fun _ => 0, ρ⟩ (fun r =>
    ∀ c : Dev nD, r.2.mem ((c.tc : Thread nD τ).loc main_v34) = outOf m c
      ∧ r.2.mem ((c.tc : Thread nD τ).loc main_v6) = zOf m c
      ∧ r.2.mem ((c.tc : Thread nD τ).loc main_v25) = zqOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  · simp only [StableHlo.TRef.ofBuf_toBuf, to_v24, to_v6, of_v5, of_v22, of_arg3]
    rfl
  · rfl
  · simp only [StableHlo.TRef.ofBuf_toBuf, to_v24, to_v6, of_v5, of_v22, of_arg3]
    rfl

end Cert.ReferenceIdeal.Vq

end
-- ==== Proof.Vq.Nearest.lean ====
module

public import Idealize.ShloMosaic.Lib.Pointwise

@[expose] public section

set_option maxRecDepth 16384

noncomputable section

namespace Cert.Nearest

open Idealize.ShloMosaic

/-- The place `k` holds the least value of `f`, and no earlier place does. -/
def IsFirst {n : Nat} (f : Fin n → EReal) (k : Fin n) : Prop := (∀ j, f k ≤ f j) ∧ ∀ j, j < k → f k < f j

/-- A nonempty row has a first least place. -/
theorem exists_first {n : Nat} [NeZero n] (f : Fin n → EReal) : ∃ k, IsFirst f k := by
  classical
  obtain ⟨k0, h0⟩ := Finite.exists_min f
  have hne : (Finset.univ.filter fun k : Fin n => ∀ j, f k ≤ f j).Nonempty := ⟨k0, by simpa using h0⟩
  refine ⟨(Finset.univ.filter fun k : Fin n => ∀ j, f k ≤ f j).min' hne, ?_⟩
  have hm := Finset.min'_mem _ hne
  simp only [Finset.mem_filter, Finset.mem_univ, true_and] at hm
  refine ⟨hm, fun j hj => lt_of_le_of_ne (hm j) fun he => ?_⟩
  exact absurd hj (not_lt.mpr (Finset.min'_le _ _ (by simpa [← he] using hm)))

/-- The first place of the least value of a row. -/
def first {n : Nat} [NeZero n] (f : Fin n → EReal) : Fin n := Classical.choose (exists_first f)

/-- What the first least place is. -/
theorem first_spec {n : Nat} [NeZero n] (f : Fin n → EReal) : IsFirst f (first f) := Classical.choose_spec (exists_first f)

/-- The fold of the minimum over a row is its value at the first least place. -/
theorem fold_min {n : Nat} [NeZero n] (f : Fin n → EReal) : Finset.univ.fold min ⊤ f = f (first f) := by
  refine le_antisymm ?_ ?_
  · rw [Finset.fold_min_le]; exact Or.inr ⟨first f, Finset.mem_univ _, le_rfl⟩
  · rw [Finset.le_fold_min]; exact ⟨le_top, fun j _ => (first_spec f).1 j⟩

/-- The signed minimum of two words is one of them. -/
theorem minsi_cases (a b : BitVec 32) : (IntOp.minsi a b = a ∧ a.toInt ≤ b.toInt) ∨ (IntOp.minsi a b = b ∧ b.toInt ≤ a.toInt) := by
  unfold IntOp.minsi
  by_cases h : a.slt b = true
  · left; simp only [BitVec.slt, decide_eq_true_eq] at h; simp [BitVec.slt, h]; omega
  · right; simp only [BitVec.slt, decide_eq_true_eq] at h; simp [BitVec.slt, h]; omega

/-- The signed minimum over a set of words, one of which is least, is that word. -/
theorem fold_minsi {ι : Type} (s : Finset ι) (b : BitVec 32) (g : ι → BitVec 32) (w : BitVec 32)
    (hb : w.toInt ≤ b.toInt) (hg : ∀ i ∈ s, w.toInt ≤ (g i).toInt) (hw : w = b ∨ ∃ i ∈ s, g i = w) :
    s.fold IntOp.minsi b g = w := by
  classical
  induction s using Finset.induction_on with
  | empty => simpa [eq_comm] using hw
  | insert a s ha ih =>
    rw [Finset.fold_insert ha]
    have hle : ∀ t : Finset ι, (∀ i ∈ t, w.toInt ≤ (g i).toInt) → w.toInt ≤ (t.fold IntOp.minsi b g).toInt := by
      intro t ht
      induction t using Finset.induction_on with
      | empty => simpa using hb
      | insert c t hc ih' =>
        rw [Finset.fold_insert hc]
        rcases minsi_cases (g c) (t.fold IntOp.minsi b g) with ⟨h, _⟩ | ⟨h, _⟩ <;> rw [h]
        · exact ht c (Finset.mem_insert_self _ _)
        · exact ih' fun i hi => ht i (Finset.mem_insert_of_mem hi)
    have hs : ∀ i ∈ s, w.toInt ≤ (g i).toInt := fun i hi => hg i (Finset.mem_insert_of_mem hi)
    have ha' := hg a (Finset.mem_insert_self _ _)
    by_cases hin : w = b ∨ ∃ i ∈ s, g i = w
    · rw [ih hs hin]
      rcases minsi_cases (g a) w with ⟨h, h'⟩ | ⟨h, _⟩ <;> rw [h]
      exact BitVec.eq_of_toInt_eq (le_antisymm h' ha')
    · have : g a = w := by
        rcases hw with h | ⟨i, hi, h⟩
        · exact absurd (Or.inl h) hin
        · rcases Finset.mem_insert.1 hi with rfl | hi
          · exact h
          · exact absurd (Or.inr ⟨i, hi, h⟩) hin
      rw [this]
      rcases minsi_cases w (s.fold IntOp.minsi b g) with ⟨h, _⟩ | ⟨h, h'⟩ <;> rw [h]
      exact BitVec.eq_of_toInt_eq (le_antisymm h' (hle s hs))

/-- A small number read back, signed, from its word. -/
theorem toInt_ofNat {n : Nat} (h : n < 2147483648) : (BitVec.ofNat 32 n).toInt = (n : Int) := by
  rw [BitVec.toInt_eq_toNat_of_lt (by rw [BitVec.toNat_ofNat, Nat.mod_eq_of_lt (by omega)]; omega), BitVec.toNat_ofNat, Nat.mod_eq_of_lt (by omega)]

/-- The kernel's search: the least of the place numbers where a row meets its least value, a large number elsewhere, is the
    number of the first such place. -/
theorem fold_place (f : Fin 1024 → EReal) :
    (Finset.univ : Finset (Fin 1024)).fold IntOp.minsi 2147483647#32
      (fun j => if f j = f (first f) then BitVec.ofNat 32 j.val else 1073741824#32) = BitVec.ofNat 32 (first f).val := by
  have hs := first_spec f
  refine fold_minsi _ _ _ _ ?_ (fun j _ => ?_) (Or.inr ⟨first f, Finset.mem_univ _, if_pos rfl⟩)
  · rw [toInt_ofNat (by have := (first f).isLt; omega)]
    exact le_trans (Int.ofNat_le.mpr (le_of_lt (first f).isLt)) (by decide)
  · rw [toInt_ofNat (by have := (first f).isLt; omega)]
    split
    · rename_i he
      rw [toInt_ofNat (by have := j.isLt; omega)]
      refine Int.ofNat_le.mpr (not_lt.mp fun hj => ?_)
      exact absurd (hs.2 j hj) (by rw [he]; exact lt_irrefl _)
    · exact le_trans (Int.ofNat_le.mpr (le_of_lt (first f).isLt)) (by decide)

/-- A row read through the indicator of one place is its value there. -/
theorem sum_indicator (k : Fin 1024) (g : Fin 1024 → EReal) :
    ∑ j, (if j = k then (1 : EReal) else 0) * g j = g k := by
  rw [Finset.sum_eq_single k]
  · simp
  · intro j _ hj; simp [hj]
  · intro h; exact absurd (Finset.mem_univ _) h

/-- The order of the reference's search: by value, then by the number. -/
def Le (a b : EReal × BitVec 32) : Prop := a.1 < b.1 ∨ (a.1 = b.1 ∧ a.2.toInt ≤ b.2.toInt)

/-- Two pairs below one another are one. -/
theorem Le.antisymm {a b : EReal × BitVec 32} (h : Le a b) (h' : Le b a) : a = b := by
  rcases h with h | ⟨h, h2⟩ <;> rcases h' with h' | ⟨h', h2'⟩
  · exact absurd h' (not_lt.mpr h.le)
  · exact absurd h (by rw [h']; exact lt_irrefl _)
  · exact absurd h' (by rw [h]; exact lt_irrefl _)
  · exact Prod.ext h (BitVec.eq_of_toInt_eq (le_antisymm h2 h2'))

/-- A left fold that keeps the lesser of two pairs ends at the least of them all. -/
theorem foldl_least (r : EReal × BitVec 32 → EReal × BitVec 32 → EReal × BitVec 32)
    (hr : ∀ a b, (r a b = a ∧ Le a b) ∨ (r a b = b ∧ Le b a)) (w : EReal × BitVec 32) :
    ∀ (L : List (EReal × BitVec 32)) (a : EReal × BitVec 32), Le w a → (∀ p ∈ L, Le w p) → (w = a ∨ w ∈ L) → L.foldl r a = w
  | [], a, _, _, h => by simpa [eq_comm] using h
  | p :: L, a, ha, hL, h => by
    rw [List.foldl_cons]
    have hp := hL p List.mem_cons_self
    refine foldl_least r hr w L (r a p) ?_ (fun q hq => hL q (List.mem_cons_of_mem _ hq)) ?_
    · rcases hr a p with ⟨e, _⟩ | ⟨e, _⟩ <;> rw [e] <;> assumption
    · rcases h with rfl | h
      · left; rcases hr w p with ⟨e, _⟩ | ⟨e, hle⟩ <;> rw [e]
        exact hp.antisymm hle
      · rcases List.mem_cons.1 h with rfl | h
        · left; rcases hr a w with ⟨e, hle⟩ | ⟨e, _⟩ <;> rw [e]
          exact ha.antisymm hle
        · exact Or.inr h

/-- The reference's search over a list holding the pairs of a row ends at its first least place. -/
theorem foldl_first (r : EReal × BitVec 32 → EReal × BitVec 32 → EReal × BitVec 32)
    (hr : ∀ a b, (r a b = a ∧ Le a b) ∨ (r a b = b ∧ Le b a)) (f : Fin 1024 → EReal) (L : List (EReal × BitVec 32))
    (hL : ∀ p, p ∈ L ↔ ∃ k : Fin 1024, p = (f k, BitVec.ofNat 32 k.val)) :
    (L.foldl r (⊤, 0#32)).2 = BitVec.ofNat 32 (first f).val := by
  have hs := first_spec f
  have hle : ∀ k : Fin 1024, Le (f (first f), BitVec.ofNat 32 (first f).val) (f k, BitVec.ofNat 32 k.val) := by
    intro k
    rcases lt_or_eq_of_le (hs.1 k) with h | h
    · exact Or.inl h
    · refine Or.inr ⟨h, ?_⟩
      show (BitVec.ofNat 32 (first f).val).toInt ≤ (BitVec.ofNat 32 k.val).toInt
      rw [toInt_ofNat (by have := (first f).isLt; omega), toInt_ofNat (by have := k.isLt; omega)]
      exact Int.ofNat_le.mpr (not_lt.mp fun hj => absurd (hs.2 k hj) (by rw [h]; exact lt_irrefl _))
  rw [foldl_least r hr (f (first f), BitVec.ofNat 32 (first f).val) L (⊤, 0#32) ?_ ?_ ?_]
  · rcases lt_or_eq_of_le (le_top : f (first f) ≤ ⊤) with h | h
    · exact Or.inl h
    · refine Or.inr ⟨h, ?_⟩
      have h0 : first f = 0 := by
        by_contra hne
        exact absurd (hs.2 0 (Fin.pos_of_ne_zero hne)) (by rw [h]; exact not_lt.mpr le_top)
      rw [h0]; exact le_rfl
  · intro p hp
    obtain ⟨k, rfl⟩ := (hL p).1 hp
    exact hle k
  · exact Or.inr ((hL _).2 ⟨first f, rfl⟩)

end Cert.Nearest

end
-- ==== Proof.Vq.Chunk.lean ====
module

public import proofs.«01_k».proof.Proof.Gen.KernelIdeal.Skeleton
public import proofs.«01_k».proof.Proof.Vq.Nearest

@[expose] public section

set_option maxRecDepth 16384

noncomputable section

namespace Cert.KernelIdeal.Vq

open Idealize.ShloMosaic Idealize.ShloMosaic.TcCoe Idealize.SL.Sem
open Cert.KernelIdeal Cert.KernelIdeal.Gen
open Cert.Nearest (first fold_min fold_place sum_indicator)

/-- The squared distance of a row of channels from a codebook row, expanded. -/
def rowDist (z : Fin 64 → EReal) (e : FVec Ideal S1024x64 .f32) (j : Fin 1024) : EReal :=
  ((∑ d : Fin 64, z d * z d) + ∑ d : Fin 64, (e (ix2 j d) : EReal) * e (ix2 j d))
    - Ideal.ofBits .f32 0x40000000#32 * ∑ d : Fin 64, z d * e (ix2 j d)

/-- The distances of the rows of a chunk, as the kernel computes them. -/
def chunkDist (z : FVec Ideal S784x64 .f32) (e : FVec Ideal S1024x64 .f32) (en : FVec Ideal S1x1024 .f32) : FVec Ideal S784x1024 .f32 :=
  subf (addf (broadcastTo S784x1024 (shapeCast S784x1 (multiReduction .add [1] S784 (mulf z z) 0x00000000#32 reduces_S784x64_S784 (.inl rfl) rfl)
        shapeCasts_S784_S784x1) broadcasts_S784x1_S784x1024) (broadcastTo S784x1024 en broadcasts_S1x1024_S784x1024))
    (mulf (broadcast S784x1024 (Scalar.ofBits .f32 0x40000000#32))
      (matmul dot_S784x64_S1024x64_S784x1024_1_1_0_0_n_n none z e (constant S784x1024 .f32 0x00000000#32)))

/-- The place the kernel finds in each row of a chunk's distances. -/
def chunkPlace (d : FVec Ideal S784x1024 .f32) : IVec S784 32 :=
  multiReductionI .minsi [1] S784
    (select (cmpf .oeq d (broadcastTo S784x1024 (shapeCast S784x1 (multiReduction .minimumf [1] S784 d 0x7F800000#32 reduces_S784x1024_S784 (.inl rfl) rfl)
        shapeCasts_S784_S784x1) broadcasts_S784x1_S784x1024)) (iota .tc S784x1024 32 [1] iota_S784x1024_d1_w32)
      (broadcast S784x1024 1073741824#32)) 2147483647#32 reduces_S784x1024_S784 rfl

/-- The codebook rows at the given places, through the indicators of the places. -/
def chunkRows (i : IVec S784 32) (e : FVec Ideal S1024x64 .f32) : FVec Ideal S784x64 .f32 :=
  matmul dot_S784x1024_S1024x64_S784x64_1_0_0_1_n_n none
    (sitofp .f32 (extui 32 (cmpi .eq (iota .tc S784x1024 32 [1] iota_S784x1024_d1_w32)
      (broadcastTo S784x1024 (shapeCast S784x1 i shapeCasts_S784_S784x1) broadcasts_S784x1_S784x1024)) natLt_1_32)) e
    (constant S784x64 .f32 0x00000000#32)

/-- The pattern of plus infinity is the top. -/
theorem ofBits_inf : Ideal.ofBits .f32 2139095040#32 = ⊤ := by
  simp [Ideal.ofBits, Ideal.ieee]

/-- The number of an equality's truth. -/
theorem indicator_word (j k : Fin 1024) :
    (FloatOps.sitofp .f32 (BitVec.setWidth 32 (IntOp.cmpi .eq (BitVec.ofNat 32 j.val) (BitVec.ofNat 32 k.val))) : Ideal .f32)
      = if j = k then (1 : EReal) else 0 := by
  have hiff : BitVec.ofNat 32 j.val = BitVec.ofNat 32 k.val ↔ j = k := by
    refine ⟨fun h => Fin.ext ?_, fun h => by rw [h]⟩
    have h' := congrArg BitVec.toNat h
    have := j.isLt; have := k.isLt
    rwa [BitVec.toNat_ofNat, BitVec.toNat_ofNat, Nat.mod_eq_of_lt (by omega), Nat.mod_eq_of_lt (by omega)] at h'
  by_cases h : j = k
  · subst h; simp [IntOp.cmpi, Ideal.scalar_sitofp_def, FloatOps.sitofp]
  · have : (BitVec.ofNat 32 j.val == BitVec.ofNat 32 k.val) = false := by simpa using fun e => h (hiff.1 e)
    simp [IntOp.cmpi, this, h, FloatOps.sitofp]

/-- The distances of a chunk are the rows' distances. -/
theorem chunkDist_apply (z : FVec Ideal S784x64 .f32) (e : FVec Ideal S1024x64 .f32) (r : Fin 784) (j : Fin 1024) :
    chunkDist z e (k0_pay5 e) (ix2 r j) = rowDist (fun d => z (ix2 r d)) e j := by
  pointwise! [chunkDist, k0_pay5, rowDist]

/-- The place found is the first least one. -/
theorem chunkPlace_apply (d : FVec Ideal S784x1024 .f32) (r : Fin 784) :
    chunkPlace d (ix1 r) = BitVec.ofNat 32 (first fun j : Fin 1024 => (d (ix2 r j) : EReal)).val := by
  pointwise [chunkPlace]
  rw [ofBits_inf, fold_min]
  exact fold_place fun j => d (ix2 r j)

/-- The row read through the indicator of its place. -/
theorem chunkRows_apply (i : IVec S784 32) (e : FVec Ideal S1024x64 .f32) (r : Fin 784) (d : Fin 64) (k : Fin 1024)
    (hk : i (ix1 r) = BitVec.ofNat 32 k.val) : chunkRows i e (ix2 r d) = e (ix2 k d) := by
  pointwise [chunkRows, hk]
  refine (Finset.sum_congr rfl fun j _ => ?_).trans (sum_indicator k fun j => e (ix2 j d))
  exact congrArg (· * (e (ix2 j d) : EReal)) (indicator_word j k)

/-- The latents of a chunk: the patches' contraction, the bias, the cut at zero. -/
theorem chunkZ_apply (w : FVec Ideal S48x64 .f32) (b : FVec Ideal S1x64 .f32) (x : FVec Ideal S784x48 .f32) (r : Fin 784) (d : Fin 64) :
    k0_pay11 w b x (ix2 r d) = max ((∑ k : Fin 48, (x (ix2 r k) : EReal) * w (ix2 k d)) + b (ix2 0 d)) 0 := by
  pointwise! [k0_pay11]

/-- One channel of one pixel's latent: the patch's contraction with a column of weights, its bias, the cut at zero. -/
def rowZ (w : FVec Ideal S48x64 .f32) (b : FVec Ideal S1x64 .f32) (x : Fin 48 → EReal) (d : Fin 64) : EReal :=
  max ((∑ k : Fin 48, x k * w (ix2 k d)) + b (ix2 0 d)) 0

/-- The codebook row nearest to a row of channels. -/
def rowQ (e : FVec Ideal S1024x64 .f32) (z : Fin 64 → EReal) (d : Fin 64) : EReal := e (ix2 (first (rowDist z e)) d)

/-- A chunk's quantised rows are the nearest codebook rows of its rows. -/
theorem chunkQ_apply (z : FVec Ideal S784x64 .f32) (e : FVec Ideal S1024x64 .f32) (r : Fin 784) (d : Fin 64) :
    chunkRows (chunkPlace (chunkDist z e (k0_pay5 e))) e (ix2 r d) = rowQ e (fun d => z (ix2 r d)) d := by
  have h : (fun j : Fin 1024 => (chunkDist z e (k0_pay5 e) (ix2 r j) : EReal)) = rowDist (fun d => z (ix2 r d)) e :=
    funext fun j => chunkDist_apply z e r j
  rw [chunkRows_apply _ e r d _ (chunkPlace_apply _ r), h]
  rfl

/-- A cast to the same shape changes nothing. -/
theorem pay3_eq (w : FVec Ideal S48x64 .f32) : k0_pay3 w = w := by
  funext j; pointwise [k0_pay3]

/-- A cast to the same shape changes nothing. -/
theorem pay4_eq (b : FVec Ideal S1x64 .f32) : k0_pay4 b = b := by
  funext j; pointwise [k0_pay4]

/-- Four stacked chunks, each holding its rows of one table, hold the table. -/
theorem stack_apply (y0 y1 y2 y3 : FVec Ideal S784x64 .f32) (G : Fin 3136 → Fin 64 → EReal)
    (h0 : ∀ (r : Fin 784) d, y0 (ix2 r d) = G ⟨r.val, by omega⟩ d) (h1 : ∀ (r : Fin 784) d, y1 (ix2 r d) = G ⟨784 + r.val, by omega⟩ d)
    (h2 : ∀ (r : Fin 784) d, y2 (ix2 r d) = G ⟨1568 + r.val, by omega⟩ d) (h3 : ∀ (r : Fin 784) d, y3 (ix2 r d) = G ⟨2352 + r.val, by omega⟩ d)
    (p : Fin 3136) (d : Fin 64) :
    concatenate S3136x64 0 [⟨S784x64, y0⟩, ⟨S784x64, y1⟩, ⟨S784x64, y2⟩, ⟨S784x64, y3⟩]
      concatenates_S784x64_S784x64_S784x64_S784x64_S3136x64_d0 (ix2 p d) = G p d := by
  pointwise [h0, h1, h2, h3]
  have hp := p.isLt
  by_cases a : p.val < 784
  · rw [dif_pos a]
  · rw [dif_neg a]
    by_cases a' : p.val - 784 < 784
    · rw [dif_pos a']; exact congrArg (fun q => G q d) (Fin.ext (by show 784 + (p.val - 784) = p.val; omega))
    · rw [dif_neg a']
      by_cases a'' : p.val - 784 - 784 < 784
      · rw [dif_pos a'']; exact congrArg (fun q => G q d) (Fin.ext (by show 1568 + (p.val - 784 - 784) = p.val; omega))
      · rw [dif_neg a'']; exact congrArg (fun q => G q d) (Fin.ext (by show 2352 + (p.val - 784 - 784 - 784) = p.val; omega))

/-- The stored latents are the stack with its axes exchanged. -/
theorem pay2_apply (y0 y1 y2 y3 : FVec Ideal S784x64 .f32) (p : Fin 3136) (d : Fin 64) :
    k0_pay2 y0 y1 y2 y3 (ix3 0 d p) = concatenate S3136x64 0 [⟨S784x64, y0⟩, ⟨S784x64, y1⟩, ⟨S784x64, y2⟩, ⟨S784x64, y3⟩]
      concatenates_S784x64_S784x64_S784x64_S784x64_S3136x64_d0 (ix2 p d) := by
  pointwise [k0_pay2]

/-- The stored latents of four chunks of patches. -/
theorem zBlock_apply (w : FVec Ideal S48x64 .f32) (b : FVec Ideal S1x64 .f32) (x0 x1 x2 x3 : FVec Ideal S784x48 .f32)
    (P : Fin 3136 → Fin 48 → EReal)
    (h0 : ∀ (r : Fin 784) k, x0 (ix2 r k) = P ⟨r.val, by omega⟩ k) (h1 : ∀ (r : Fin 784) k, x1 (ix2 r k) = P ⟨784 + r.val, by omega⟩ k)
    (h2 : ∀ (r : Fin 784) k, x2 (ix2 r k) = P ⟨1568 + r.val, by omega⟩ k) (h3 : ∀ (r : Fin 784) k, x3 (ix2 r k) = P ⟨2352 + r.val, by omega⟩ k)
    (d : Fin 64) (p : Fin 3136) :
    k0_pay2 (F := Ideal) (k0_pay7 w b x0) (k0_pay11 (k0_pay3 w) (k0_pay4 b) x1) (k0_pay15 (k0_pay13 (k0_pay3 w) x2) (k0_pay14 (k0_pay4 b)))
      (k0_pay17 (k0_pay3 w) (k0_pay4 b) x3) (ix3 0 d p) = rowZ w b (P p) d := by
  have e0 : k0_pay7 (F := Ideal) w b x0 = k0_pay11 (k0_pay3 w) (k0_pay4 b) x0 := rfl
  have e2 : k0_pay15 (F := Ideal) (k0_pay13 (k0_pay3 w) x2) (k0_pay14 (k0_pay4 b)) = k0_pay11 (k0_pay3 w) (k0_pay4 b) x2 := rfl
  have e3 : k0_pay17 (F := Ideal) (k0_pay3 w) (k0_pay4 b) x3 = k0_pay11 (k0_pay3 w) (k0_pay4 b) x3 := rfl
  rw [e0, e2, e3, pay3_eq, pay4_eq, pay2_apply]
  refine stack_apply _ _ _ _ (fun p d => rowZ w b (P p) d) (fun r d => ?_) (fun r d => ?_) (fun r d => ?_) (fun r d => ?_) p d
  all_goals simp only [chunkZ_apply, h0, h1, h2, h3, rowZ]

/-- The stored quantised rows of four chunks of patches. -/
theorem qBlock_apply (w : FVec Ideal S48x64 .f32) (b : FVec Ideal S1x64 .f32) (e : FVec Ideal S1024x64 .f32) (x0 x1 x2 x3 : FVec Ideal S784x48 .f32)
    (P : Fin 3136 → Fin 48 → EReal)
    (h0 : ∀ (r : Fin 784) k, x0 (ix2 r k) = P ⟨r.val, by omega⟩ k) (h1 : ∀ (r : Fin 784) k, x1 (ix2 r k) = P ⟨784 + r.val, by omega⟩ k)
    (h2 : ∀ (r : Fin 784) k, x2 (ix2 r k) = P ⟨1568 + r.val, by omega⟩ k) (h3 : ∀ (r : Fin 784) k, x3 (ix2 r k) = P ⟨2352 + r.val, by omega⟩ k)
    (p : Fin 3136) (d : Fin 64) :
    k0_pay1 (F := Ideal) e (k0_pay10 e (k0_pay8 w b e x0) (iota .tc S784x1024 32 [1] iota_S784x1024_d1_w32) (k0_pay9 w b e x0))
      (k0_pay12 (k0_pay3 w) (k0_pay4 b) e (k0_pay5 e) x1)
      (k0_pay16 e (k0_pay5 e) (k0_pay13 (k0_pay3 w) x2) (k0_pay14 (k0_pay4 b)))
      (k0_pay18 (k0_pay3 w) (k0_pay4 b) e (k0_pay5 e) x3) (k0_pay19 (k0_pay3 w) (k0_pay4 b) e (k0_pay5 e) x3) (ix2 p d)
      = rowQ e (rowZ w b (P p)) d := by
  have key : ∀ x : FVec Ideal S784x48 .f32, ∀ r d, ∀ q : Fin 3136, (∀ k, x (ix2 r k) = P q k) →
      chunkRows (chunkPlace (chunkDist (k0_pay11 (k0_pay3 w) (k0_pay4 b) x) e (k0_pay5 e))) e (ix2 r d) = rowQ e (rowZ w b (P q)) d := by
    intro x r d q h
    rw [chunkQ_apply, pay3_eq, pay4_eq]
    simp only [chunkZ_apply, h]
    rfl
  exact stack_apply _ _ _ _ (fun p d => rowQ e (rowZ w b (P p)) d) (fun r d => key x0 r d _ (h0 r)) (fun r d => key x1 r d _ (h1 r))
    (fun r d => key x2 r d _ (h2 r)) (fun r d => key x3 r d _ (h3 r)) p d

end Cert.KernelIdeal.Vq

end
-- ==== Proof.Vq.Enc.lean ====
module

public import proofs.«01_k».proof.Proof.Vq.KernelRun
public import proofs.«01_k».proof.Proof.Vq.Chunk
public import Idealize.ShloMosaic.Lib.Pipeline.ValueKit
public import Idealize.ShloMosaic.Lib.Pipeline.ReadBack

@[expose] public section

set_option maxRecDepth 16384

noncomputable section

namespace Cert.KernelIdeal.Vq

open Idealize.ShloMosaic Idealize.ShloMosaic.TcCoe Idealize.SL.Sem
open Idealize.ShloMosaic.Pipeline (Dat)
open Cert.KernelIdeal Cert.KernelIdeal.Gen
open Cert.Nearest (first)

/-- The patch of pixel `p` of image `n`: 3 channels of 4 rows of 4 columns. -/
def patch (x : FVec Ideal S8x3x224x224 .f32) (n : Fin 8) (p : Fin 3136) (k : Fin 48) : EReal :=
  x (ix4 n ⟨k.val / 16, by omega⟩ ⟨p.val / 56 * 4 + k.val / 4 % 4, by omega⟩ ⟨p.val % 56 * 4 + k.val % 4, by omega⟩)

/-- The latents array of the weights and images, pixels flattened. -/
def latents (w : FVec Ideal S48x64 .f32) (b : FVec Ideal S1x64 .f32) (x : FVec Ideal S8x3x224x224 .f32) : FVec Ideal S8x64x3136 .f32 :=
  fun i => rowZ w b (patch x (i 0) (i 2)) (i 1)

/-- The quantised rows of the weights, codebook and images: one row of 64 channels a pixel. -/
def rows (w : FVec Ideal S48x64 .f32) (b : FVec Ideal S1x64 .f32) (e : FVec Ideal S1024x64 .f32) (x : FVec Ideal S8x3x224x224 .f32) : FVec Ideal S25088x64 .f32 :=
  fun i => rowQ e (rowZ w b (patch x ⟨(i 0).val / 3136, by have : (i 0).val < 25088 := (i 0).isLt; omega⟩ ⟨(i 0).val % 3136, by omega⟩)) (i 1)

/-- The quantised row of pixel `p` of image `n`. -/
theorem rows_apply (w : FVec Ideal S48x64 .f32) (b : FVec Ideal S1x64 .f32) (e : FVec Ideal S1024x64 .f32) (x : FVec Ideal S8x3x224x224 .f32)
    (n : Fin 8) (p : Fin 3136) (d : Fin 64) :
    rows w b e x (ix2 ⟨n.val * 3136 + p.val, by omega⟩ d) = rowQ e (rowZ w b (patch x n p)) d := by
  have e1 : (⟨(n.val * 3136 + p.val) / 3136, by omega⟩ : Fin 8) = n := Fin.ext (by show (n.val * 3136 + p.val) / 3136 = n.val; omega)
  have e2 : (⟨(n.val * 3136 + p.val) % 3136, by omega⟩ : Fin 3136) = p := Fin.ext (by show (n.val * 3136 + p.val) % 3136 = p.val; omega)
  show rowQ e (rowZ w b (patch x ⟨(n.val * 3136 + p.val) / 3136, _⟩ ⟨(n.val * 3136 + p.val) % 3136, _⟩)) d = _
  rw [e1, e2]

/-- The kernel's patches of one image, read at a pixel and a place of its patch. -/
theorem pay6_apply (x : FVec Ideal S1x3x224x224 .f32) (p : Fin 3136) (k : Fin 48) :
    k0_pay6 x (ix2 p k) = x (ix4 0 ⟨k.val / 16, by omega⟩ ⟨p.val / 56 * 4 + k.val / 4 % 4, by omega⟩ ⟨p.val % 56 * 4 + k.val % 4, by omega⟩) := by
  pointwise [k0_pay6]

/-- Every window's block index at a grid point. -/
theorem idx0 : ∀ t : Fin cfg0.N, win0_0.index t = ![t.val, 0, 0, 0] ∧ win0_1.index t = ![0, 0] ∧ win0_2.index t = ![0, 0]
    ∧ win0_3.index t = ![0, 0] ∧ win0_4.index t = ![t.val, 0, 0] ∧ win0_5.index t = ![t.val, 0] :=
  (by decide +kernel : ∀ t : Fin grid0.N, _)

variable (V : (c : Dev nD) → (b : Ref sig .tc) → Buf (Elt Ideal) ((c : Thread nD τ).loc b))

/-- The weights' block is the whole array. -/
theorem iblk0_1 (c : Dev nD) (t : Fin cfg0.N) : iblk0 V c 1 t = V c main_v1 := by blk_ext! [iblk0, idx0 t]
/-- The bias's block is the whole array. -/
theorem iblk0_2 (c : Dev nD) (t : Fin cfg0.N) : iblk0 V c 2 t = V c main_v2 := by blk_ext! [iblk0, idx0 t]
/-- The codebook's block is the whole array. -/
theorem iblk0_3 (c : Dev nD) (t : Fin cfg0.N) : iblk0 V c 3 t = V c main_arg3 := by blk_ext! [iblk0, idx0 t]

/-- The patches of a grid point's image. -/
theorem patch_block (c : Dev nD) (t : Fin cfg0.N) (p : Fin 3136) (k : Fin 48) :
    k0_pay6 (F := Ideal) (iblk0 V c 0 t) (ix2 p k) = patch (V c main_arg0) ⟨t.val, t.isLt⟩ p k := by
  refine (pay6_apply _ p k).trans ?_
  unfold patch
  blk_ext [iblk0, idx0 t]

/-- After the first region its latents output holds the latents of its weights and images. -/
theorem latents_final (c : Dev nD) : (dat0 V c).arrAt 4 cfg0.N = latents (V c main_v1) (V c main_v2) (V c main_arg0) := by
  refine (dat0 V c).arrAt_eq_of_covers 4 (latents (V c main_v1) (V c main_v2) (V c main_arg0)) (by decide +kernel) fun t hf y => ?_
  blk_simp
  rw [after0_4]
  unfold outsAt0
  frame_open
  simp (disch := decide) only [↓ View.readCov_skip, ↓ View.readCov_cons_toLoadRect, ↓ View.readCov_fill]
  frame_out
  rw [iblk0_1, iblk0_2]
  obtain ⟨d, p, rfl⟩ : ∃ (d : Fin 64) (p : Fin 3136), y = (ix3 0 d p : S1x64x3136.Idx) := ⟨y 1, y 2, by idx_ext⟩
  refine (zBlock_apply _ _ _ _ _ _ (patch (V c main_arg0) ⟨t.val, t.isLt⟩) (fun r k => ?_) (fun r k => ?_) (fun r k => ?_) (fun r k => ?_) d p).trans ?_
  iterate 4 (refine Eq.trans ?_ (patch_block V c t _ k); pointwise)
  have hy : (((View.whole main_v10_0).slice (win0_4.rect t)).emb (ix3 0 d p) : S8x64x3136.Idx) = ix3 ⟨t.val, t.isLt⟩ d p := by
    blk_ext [idx0 t]
  rw [hy]
  rfl

/-- After the first region its quantised output holds the nearest codebook rows of the latents. -/
theorem rows_final (c : Dev nD) : (dat0 V c).arrAt 5 cfg0.N = rows (V c main_v1) (V c main_v2) (V c main_arg3) (V c main_arg0) := by
  refine (dat0 V c).arrAt_eq_of_covers 5 (rows (V c main_v1) (V c main_v2) (V c main_arg3) (V c main_arg0)) (by decide +kernel) fun t hf y => ?_
  blk_simp
  rw [after0_5]
  unfold outsAt0
  frame_open
  simp (disch := decide) only [↓ View.readCov_skip, ↓ View.readCov_cons_toLoadRect, ↓ View.readCov_fill]
  frame_out
  rw [iblk0_1, iblk0_2, iblk0_3]
  obtain ⟨p, d, rfl⟩ : ∃ (p : Fin 3136) (d : Fin 64), y = (ix2 p d : S3136x64.Idx) := ⟨y 0, y 1, by idx_ext⟩
  refine (qBlock_apply _ _ _ _ _ _ _ (patch (V c main_arg0) ⟨t.val, t.isLt⟩) (fun r k => ?_) (fun r k => ?_) (fun r k => ?_) (fun r k => ?_) p d).trans ?_
  iterate 4 (refine Eq.trans ?_ (patch_block V c t _ k); pointwise)
  have ht : t.val < 8 := t.isLt
  have hy : (((View.whole main_v10_1).slice (win0_5.rect t)).emb (ix2 p d) : S25088x64.Idx) = ix2 ⟨t.val * 3136 + p.val, by omega⟩ d := by
    blk_ext [idx0 t]
  rw [hy]
  exact (rows_apply _ _ _ _ ⟨t.val, t.isLt⟩ p d).symm

end Cert.KernelIdeal.Vq

end
-- ==== Proof.Vq.Dec.lean ====
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Vq

open Idealize.ShloMosaic Idealize.ShloMosaic.TcCoe Idealize.SL.Sem
open Idealize.ShloMosaic.Pipeline (Dat)
open Cert.KernelIdeal Cert.KernelIdeal.Gen

/-- One value of the decoded image: the contraction of a row of weights with the channels of the pixel it lies over, and its bias. -/
def decAt (w : FVec Ideal S48x64 .f32) (z : FVec Ideal S8x64x3136 .f32) (b : FVec Ideal S48x1 .f32) (n : Fin 8) (c : Fin 3) (i j : Fin 224) : EReal :=
  (∑ d : Fin 64, (w (ix2 ⟨c.val * 16 + i.val % 4 * 4 + j.val % 4, by omega⟩ d) : EReal) * z (ix3 n d ⟨i.val / 4 * 56 + j.val / 4, by omega⟩))
    + b (ix2 ⟨c.val * 16 + i.val % 4 * 4 + j.val % 4, by omega⟩ 0)

/-- The decoded images of the weights, rows and bias. -/
def image (w : FVec Ideal S48x64 .f32) (z : FVec Ideal S8x64x3136 .f32) (b : FVec Ideal S48x1 .f32) : FVec Ideal S8x3x224x224 .f32 :=
  fun i => decAt w z b (i 0) (i 1) (i 2) (i 3)

/-- The kernel's decoded block, read at a channel and a place. -/
theorem k1_pay1_apply (w : FVec Ideal S48x64 .f32) (z : FVec Ideal S1x64x3136 .f32) (b : FVec Ideal S48x1 .f32) (c : Fin 3) (i j : Fin 224) :
    k1_pay1 w z b (ix4 0 c i j)
      = (∑ d : Fin 64, (w (ix2 ⟨c.val * 16 + i.val % 4 * 4 + j.val % 4, by omega⟩ d) : EReal) * z (ix3 0 d ⟨i.val / 4 * 56 + j.val / 4, by omega⟩))
        + b (ix2 ⟨c.val * 16 + i.val % 4 * 4 + j.val % 4, by omega⟩ 0) := by
  pointwise [k1_pay1]

/-- Every window's block index at a grid point. -/
theorem idx1 : ∀ t : Fin cfg1.N, win1_0.index t = ![t.val, 0, 0] ∧ win1_1.index t = ![0, 0] ∧ win1_2.index t = ![0, 0]
    ∧ win1_3.index t = ![t.val, 0, 0, 0] :=
  (by decide +kernel : ∀ t : Fin grid1.N, _)

variable (V : (c : Dev nD) → (b : Ref sig .tc) → Buf (Elt Ideal) ((c : Thread nD τ).loc b))

/-- The weights' block is the whole array. -/
theorem iblk1_1 (c : Dev nD) (t : Fin cfg1.N) : iblk1 V c 1 t = V c main_v6 := by blk_ext! [iblk1, idx1 t]
/-- The bias's block is the whole array. -/
theorem iblk1_2 (c : Dev nD) (t : Fin cfg1.N) : iblk1 V c 2 t = V c main_v9 := by blk_ext! [iblk1, idx1 t]

/-- After the second region its output holds the decoded images. -/
theorem image_final (c : Dev nD) : (dat1 V c).arrAt 3 cfg1.N = image (V c main_v6) (V c main_v13) (V c main_v9) := by
  refine (dat1 V c).arrAt_eq_of_covers 3 (image (V c main_v6) (V c main_v13) (V c main_v9)) (by decide +kernel) fun t hf y => ?_
  blk_simp
  rw [after1_3]
  frame_out
  rw [iblk1_1, iblk1_2]
  obtain ⟨k, i, j, rfl⟩ : ∃ (k : Fin 3) (i j : Fin 224), y = (ix4 0 k i j : S1x3x224x224.Idx) := ⟨y 1, y 2, y 3, by idx_ext⟩
  refine (k1_pay1_apply _ _ _ k i j).trans ?_
  have ht : t.val < 8 := t.isLt
  have hy : (((View.whole main_v14).slice (win1_3.rect t)).emb (ix4 0 k i j) : S8x3x224x224.Idx) = ix4 ⟨t.val, ht⟩ k i j := by
    blk_ext [idx1 t]
  rw [hy]
  show _ = decAt (V c main_v6) (V c main_v13) (V c main_v9) ⟨t.val, ht⟩ k i j
  unfold decAt
  refine Ideal.add_congr (Finset.sum_congr rfl fun d _ => Ideal.mul_congr rfl ?_) rfl
  blk_ext [iblk1, idx1 t]

end Cert.KernelIdeal.Vq

end
-- ==== Proof.Vq.RefValue.lean ====
module

public import proofs.«01_k».proof.Proof.Vq.RefRun
public import proofs.«01_k».proof.Proof.Vq.Nearest
public import Idealize.ShloMosaic.Lib.Routing.Ops

@[expose] public section

set_option maxRecDepth 16384

noncomputable section

namespace Cert.ReferenceIdeal.Vq

open Idealize.ShloMosaic Idealize.ShloMosaic.TcCoe Idealize.SL.Sem
open Cert.ReferenceIdeal Cert.ReferenceIdeal.Facts Cert.ReferenceIdeal.Gen

/-- The encoder's contraction. -/
abbrev dEnc : DotDims S64x3x4x4 S8x3x56x4x56x4 S64x8x56x56 := dot_S64x3x4x4_S8x3x56x4x56x4_S64x8x56x56_123_135_0_024_n_n

/-- The three contracted coordinates (channel, row in the patch, column in the patch) of the number `k` below 48. -/
def tap (k : Fin 48) : dEnc.contr.Idx := fun p =>
  match p with
  | ⟨0, _⟩ => (⟨k.val / 16, by omega⟩ : Fin 3)
  | ⟨1, _⟩ => (⟨k.val / 4 % 4, by omega⟩ : Fin 4)
  | ⟨2, _⟩ => (⟨k.val % 4, by omega⟩ : Fin 4)

/-- The contracted coordinates are numbered below 48 in row-major order. -/
def tapEquiv : Fin 48 ≃ dEnc.contr.Idx where
  toFun := tap
  invFun q := ⟨(q ⟨0, by decide⟩).val * 16 + (q ⟨1, by decide⟩).val * 4 + (q ⟨2, by decide⟩).val, by
    have h0 : (q ⟨0, by decide⟩).val < 3 := (q ⟨0, by decide⟩).isLt
    have h1 : (q ⟨1, by decide⟩).val < 4 := (q ⟨1, by decide⟩).isLt
    have h2 : (q ⟨2, by decide⟩).val < 4 := (q ⟨2, by decide⟩).isLt
    omega⟩
  left_inv k := by
    apply Fin.ext
    show k.val / 16 * 16 + k.val / 4 % 4 * 4 + k.val % 4 = k.val
    omega
  right_inv q := by
    have h0 : (q ⟨0, by decide⟩).val < 3 := (q ⟨0, by decide⟩).isLt
    have h1 : (q ⟨1, by decide⟩).val < 4 := (q ⟨1, by decide⟩).isLt
    have h2 : (q ⟨2, by decide⟩).val < 4 := (q ⟨2, by decide⟩).isLt
    funext p
    apply Fin.ext
    match p with
    | ⟨0, _⟩ =>
      show ((q ⟨0, by decide⟩).val * 16 + (q ⟨1, by decide⟩).val * 4 + (q ⟨2, by decide⟩).val) / 16 = (q ⟨0, by decide⟩).val
      omega
    | ⟨1, _⟩ =>
      show ((q ⟨0, by decide⟩).val * 16 + (q ⟨1, by decide⟩).val * 4 + (q ⟨2, by decide⟩).val) / 4 % 4 = (q ⟨1, by decide⟩).val
      omega
    | ⟨2, _⟩ =>
      show ((q ⟨0, by decide⟩).val * 16 + (q ⟨1, by decide⟩).val * 4 + (q ⟨2, by decide⟩).val) % 4 = (q ⟨2, by decide⟩).val
      omega

/-- The encoder's contraction at an index: a sum over the 48 entries of a patch. -/
theorem enc_apply (w : FVec Ideal S64x3x4x4 .f32) (x : FVec Ideal S8x3x56x4x56x4 .f32) (d : Fin 64) (n : Fin 8) (p q : Fin 56) :
    Ideal.matmul dEnc w x (fun _ => 0) (ix4 d n p q) =
      ∑ k : Fin 48, w (ix4 d ⟨k.val / 16, by omega⟩ ⟨k.val / 4 % 4, by omega⟩ ⟨k.val % 4, by omega⟩) *
        x (ix6 n ⟨k.val / 16, by omega⟩ p ⟨k.val / 4 % 4, by omega⟩ q ⟨k.val % 4, by omega⟩) := by
  show (0 : EReal) + ∑ k : dEnc.contr.Idx, w (dEnc.lhsIdx (ix4 d n p q) k) * x (dEnc.rhsIdx (ix4 d n p q) k) = _
  rw [zero_add, ← Equiv.sum_comp tapEquiv]
  refine Finset.sum_congr rfl fun k _ => ?_
  have hl : dEnc.lhsIdx (ix4 d n p q) (tapEquiv k) = ix4 d ⟨k.val / 16, by omega⟩ ⟨k.val / 4 % 4, by omega⟩ ⟨k.val % 4, by omega⟩ := by
    funext a
    match a with
    | ⟨0, _⟩ => rfl
    | ⟨1, _⟩ => rfl
    | ⟨2, _⟩ => rfl
    | ⟨3, _⟩ => rfl
  have hr : dEnc.rhsIdx (ix4 d n p q) (tapEquiv k) =
      ix6 n ⟨k.val / 16, by omega⟩ p ⟨k.val / 4 % 4, by omega⟩ q ⟨k.val % 4, by omega⟩ := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [hl, hr]

/-- The latents at an index. -/
theorem refZ_apply (x : FVec Ideal S8x3x224x224 .f32) (w : FVec Ideal S64x3x4x4 .f32) (b : FVec Ideal S64 .f32)
    (n : Fin 8) (d : Fin 64) (p q : Fin 56) :
    refZ x w b (ix4 n d p q) =
      max ((∑ k : Fin 48, w (ix4 d ⟨k.val / 16, by omega⟩ ⟨k.val / 4 % 4, by omega⟩ ⟨k.val % 4, by omega⟩) *
        x (ix4 n ⟨k.val / 16, by omega⟩ ⟨p.val * 4 + k.val / 4 % 4, by omega⟩ ⟨q.val * 4 + k.val % 4, by omega⟩)) + b (ix1 d)) 0 := by
  pointwise [refZ, enc_apply]

/-- The decoder at an index. -/
theorem refOut_apply (z zq : FVec Ideal S8x64x56x56 .f32) (w : FVec Ideal S3x64x4x4 .f32) (b : FVec Ideal S3 .f32)
    (n : Fin 8) (c : Fin 3) (i j : Fin 224) :
    refOut z zq w b (ix4 n c i j) =
      (∑ d : Fin 64, Host.reverse [2, 3] w (ix4 c d ⟨i.val % 4, by omega⟩ ⟨j.val % 4, by omega⟩) *
        (z (ix4 n d ⟨i.val / 4, by omega⟩ ⟨j.val / 4, by omega⟩) +
          (zq (ix4 n d ⟨i.val / 4, by omega⟩ ⟨j.val / 4, by omega⟩) - z (ix4 n d ⟨i.val / 4, by omega⟩ ⟨j.val / 4, by omega⟩)))) +
        b (ix1 c) := by
  pointwise [refOut]

/-- The distance of a row from a codebook row, at an index. -/
theorem refDist_apply (f : FVec Ideal S25088x64 .f32) (e : FVec Ideal S1024x64 .f32) (r : Fin 25088) (j : Fin 1024) :
    refDist f e (ix2 r j) =
      ((∑ d : Fin 64, f (ix2 r d) * f (ix2 r d)) + ∑ d : Fin 64, e (ix2 j d) * e (ix2 j d)) -
        Ideal.ofBits .f32 0x40000000#32 * ∑ d : Fin 64, f (ix2 r d) * e (ix2 j d) := by
  pointwise [refDist]

/-- A pixel's row holds the latents' channels there. -/
theorem refFlat_apply (z : FVec Ideal S8x64x56x56 .f32) (n : Fin 8) (p : Fin 3136) (d : Fin 64) :
    refFlat z (ix2 ⟨n.val * 3136 + p.val, by omega⟩ d) = z (ix4 n d ⟨p.val / 56, by omega⟩ ⟨p.val % 56, by omega⟩) := by
  pointwise [refFlat]
  congr 2 <;> apply Fin.ext <;> simp only [] <;> omega

/-- The host's step of the least-place reduction takes the lesser of two pairs. -/
theorem reducer_cases (a b : EReal × BitVec 32) :
    (reducer_argmin_f32_i32 (F := Ideal) a b = a ∧ Cert.Nearest.Le a b) ∨
      (reducer_argmin_f32_i32 (F := Ideal) a b = b ∧ Cert.Nearest.Le b a) := by
  obtain ⟨a1, a2⟩ := a
  obtain ⟨b1, b2⟩ := b
  have hune : Ideal.cmp .une a1 a1 = 0#1 := by simp [Ideal.cmp]
  have hr : reducer_argmin_f32_i32 (F := Ideal) (a1, a2) (b1, b2) =
      (Scalar.select (IntOp.ori (Ideal.cmp .olt a1 b1) (Ideal.cmp .une a1 a1)) a1 b1,
        Scalar.select (IntOp.ori (IntOp.ori (Ideal.cmp .olt a1 b1) (Ideal.cmp .une a1 a1))
          (IntOp.andi (Ideal.cmp .oeq a1 b1) (IntOp.cmpi .slt a2 b2))) a2 b2) := rfl
  rw [hr, hune]
  rcases lt_trichotomy a1 b1 with h | h | h
  · left
    refine ⟨?_, Or.inl h⟩
    have e1 : Ideal.cmp .olt a1 b1 = 1#1 := by simp [Ideal.cmp, h]
    have e2 : Ideal.cmp .oeq a1 b1 = 0#1 := by simp [Ideal.cmp, h.ne]
    rw [e1, e2]
    simp [IntOp.ori, IntOp.andi, Scalar.select]
  · subst h
    have e1 : Ideal.cmp .olt a1 a1 = 0#1 := by simp [Ideal.cmp]
    have e2 : Ideal.cmp .oeq a1 a1 = 1#1 := by simp [Ideal.cmp]
    rw [e1, e2]
    by_cases hs : a2.toInt < b2.toInt
    · left
      refine ⟨?_, Or.inr ⟨rfl, hs.le⟩⟩
      have e3 : IntOp.cmpi .slt a2 b2 = 1#1 := by simp [IntOp.cmpi, BitVec.slt, hs]
      rw [e3]
      simp [IntOp.ori, IntOp.andi, Scalar.select]
    · right
      refine ⟨?_, Or.inr ⟨rfl, not_lt.mp hs⟩⟩
      have e3 : IntOp.cmpi .slt a2 b2 = 0#1 := by simp [IntOp.cmpi, BitVec.slt, hs]
      rw [e3]
      simp [IntOp.ori, IntOp.andi, Scalar.select]
  · right
    refine ⟨?_, Or.inl h⟩
    have e1 : Ideal.cmp .olt a1 b1 = 0#1 := by simp [Ideal.cmp, not_lt.mpr h.le]
    have e2 : Ideal.cmp .oeq a1 b1 = 0#1 := by simp [Ideal.cmp, h.ne']
    rw [e1, e2]
    simp [IntOp.ori, IntOp.andi, Scalar.select]

/-- The pairs a reduction meets at a result index are those of the source indices above it. -/
theorem mem_fiber {s t : Shape} {axes : List (Fin s.rank)} {α β : Type} (x : s.Idx → α) (y : s.Idx → β) (h : s.ReducesTo axes t)
    (j : t.Idx) (p : α × β) : p ∈ Host.argReduceFiber x y h j ↔ ∃ i : s.Idx, h.drop i = j ∧ p = (x i, y i) := by
  simp only [Host.argReduceFiber, List.mem_map, List.mem_filter, List.mem_finRange, true_and, decide_eq_true_eq]
  constructor
  · rintro ⟨k, hk, rfl⟩; exact ⟨_, hk, rfl⟩
  · rintro ⟨i, hi, rfl⟩
    exact ⟨s.rowMajor i, by rw [Equiv.symm_apply_apply]; exact hi, by rw [Equiv.symm_apply_apply]⟩

/-- The least-place reduction of pairs whose second components count 1024 places: the number of the first least place. -/
theorem argmin_apply {s t u : Shape} {axes : List (Fin s.rank)} (x : FVec Ideal s .f32) (y : IVec s 32) (ix : FVec Ideal u .f32)
    (iy : IVec u 32) (h : s.ReducesTo axes t) (hu : 0 < u.numel) (j : t.Idx) (f : Fin 1024 → EReal)
    (hx : ix (Shape.Idx.first hu) = (⊤ : EReal)) (hy : iy (Shape.Idx.first hu) = 0#32)
    (at_ : Fin 1024 → s.Idx) (hat : ∀ i, h.drop i = j ↔ ∃ k, i = at_ k)
    (hf : ∀ k, x (at_ k) = f k) (hn : ∀ k, y (at_ k) = BitVec.ofNat 32 k.val) :
    (Host.argReduce (reducer_argmin_f32_i32 (F := Ideal)) x y ix iy h hu j).2 = BitVec.ofNat 32 (Cert.Nearest.first f).val := by
  rw [Ideal.argReduce_eq_reduce2, Host.reduce2_eq_foldl_fiber, hx, hy]
  refine Cert.Nearest.foldl_first _ reducer_cases _ _ fun p => ?_
  rw [mem_fiber]
  constructor
  · rintro ⟨i, hi, rfl⟩
    obtain ⟨k, rfl⟩ := (hat i).1 hi
    exact ⟨k, by rw [hf, hn]⟩
  · rintro ⟨k, rfl⟩
    exact ⟨at_ k, (hat _).2 ⟨k, rfl⟩, by rw [hf, hn]⟩

/-- The source indices above a result index are its row's. -/
theorem drop_iff (j : S25088.Idx) (i : S25088x1024.Idx) :
    reducesTo_S25088x1024_S25088_d1.drop i = j ↔ ∃ k : Fin 1024, i = ix2 (j 0) k := by
  have e : (reducesTo_S25088x1024_S25088_d1.drop i 0 : Nat) = i 0 := reducesTo_S25088x1024_S25088_d1.drop_apply_val_of_eq i 0 0
  constructor
  · intro hi
    refine ⟨i 1, funext fun a => ?_⟩
    match a with
    | ⟨0, _⟩ => exact Fin.ext (e.symm.trans (by rw [hi]; rfl))
    | ⟨1, _⟩ => rfl
  · rintro ⟨k, rfl⟩
    funext a
    match a with
    | ⟨0, _⟩ => exact Fin.ext e

/-- The reduction starts from positive infinity. -/
theorem init_top : (constant (F := Ideal) S_ .f32 0x7F800000#32) (Shape.Idx.first h_S_) = (⊤ : EReal) := by
  show Ideal.ofBits .f32 0x7F800000#32 = ⊤
  simp [Ideal.ofBits, Ideal.ieee]

/-- The reduction's numbers are those of the first codebook row at the least distance. -/
theorem refIdx_eq (g : FVec Ideal S25088x1024 .f32) :
    refIdx g = fun j => BitVec.ofNat 32 (Cert.Nearest.first fun k : Fin 1024 => g (ix2 (j 0) k)).val := by
  unfold refIdx
  funext j
  exact argmin_apply g _ _ _ reducesTo_S25088x1024_S25088_d1 h_S_ j _ init_top rfl (fun k => ix2 (j 0) k) (drop_iff j)
    (fun _ => rfl) (fun _ => rfl)

/-- A row number below 1024 is left alone by the count from the end. -/
theorem refWrap_apply (i : IVec S25088 32) (r : Fin 25088) (k : Fin 1024) (h : i (ix1 r) = BitVec.ofNat 32 k.val) :
    refWrap i (ix2 r 0) = BitVec.ofNat 32 k.val := by
  pointwise [refWrap, h]
  have e : IntOp.cmpi .slt (BitVec.ofNat 32 k.val) 0#32 = 0#1 := by
    have := Cert.Nearest.toInt_ofNat (show k.val < 2147483648 by omega)
    have : ¬ ((k.val : Int) < 0) := by omega
    simp [IntOp.cmpi, BitVec.slt, *]
  rw [e]
  rfl

/-- The codebook row at a number below 1024. -/
theorem refTake_apply (e : FVec Ideal S1024x64 .f32) (i : IVec S25088 32) (r : Fin 25088) (d : Fin 64) (k : Fin 1024)
    (h : i (ix1 r) = BitVec.ofNat 32 k.val) : refTake e i (ix2 r d) = e (ix2 k d) := by
  have hg := Idealize.ShloMosaic.Routing.gather_row gather_S1024x64_S25088x1_S25088x64_1_0_n_n_0_1_164 rfl rfl rfl rfl rfl e (refWrap i)
    r d k (refWrap_apply i r k h) (by decide)
  have hw : ∀ y : Fin 1, refWrap i (ix2 r y) = BitVec.ofNat 32 k.val := fun y => by
    obtain rfl : y = 0 := Subsingleton.elim _ _
    exact refWrap_apply i r k h
  have ht := Cert.Nearest.toInt_ofNat (show k.val < 2147483648 by omega)
  have e1 : IntOp.cmpi .sge (BitVec.ofNat 32 k.val) 0#32 = 1#1 := by simp [IntOp.cmpi, BitVec.sle, ht]
  have e2 : IntOp.cmpi .sle (BitVec.ofNat 32 k.val) 1023#32 = 1#1 := by
    have : (k.val : Int) ≤ 1023 := by omega
    simp [IntOp.cmpi, BitVec.sle, ht, this]
  pointwise [refTake]
  simp only [hw, e1, e2]
  have ha : Finset.fold IntOp.andi 1#1 (fun _ : Fin 1 => IntOp.andi 1#1 1#1) Finset.univ = 1#1 := by decide
  rw [ha]
  exact hg

/-- The chosen rows: at each pixel's row, the codebook row at the least distance. -/
theorem refRows_apply (f : FVec Ideal S25088x64 .f32) (e : FVec Ideal S1024x64 .f32) (r : Fin 25088) (d : Fin 64) :
    refTake e (refIdx (refDist f e)) (ix2 r d) = e (ix2 (Cert.Nearest.first fun k : Fin 1024 => refDist f e (ix2 r k)) d) :=
  refTake_apply e _ r d _ (congrFun (refIdx_eq (refDist f e)) (ix1 r))

end Cert.ReferenceIdeal.Vq

end
-- ==== Proof.Vq.Compare.lean ====
module

public import proofs.«01_k».proof.Proof.Vq.KernelRun
public import proofs.«01_k».proof.Proof.Vq.Enc
public import proofs.«01_k».proof.Proof.Vq.Dec
public import proofs.«01_k».proof.Proof.Vq.RefValue
public import proofs.«01_k».proof.Proof.Gen.Pre_finite

@[expose] public section

set_option maxRecDepth 16384

noncomputable section

namespace Cert.KernelIdeal.Vq

open Idealize.ShloMosaic Idealize.ShloMosaic.TcCoe Idealize.SL.Sem
open Cert.KernelIdeal Cert.KernelIdeal.Facts Cert.KernelIdeal.Gen
open Cert.ReferenceIdeal.Vq (refZ refFlat refDist refIdx refTake refZq refOut)
open Cert.Nearest (first)

/-- The encoder's weights as the kernel reads them: a matrix of 48 patch entries by 64 channels. -/
def encW (w : FVec Ideal S64x3x4x4 .f32) : FVec Ideal S48x64 .f32 :=
  transpose S48x64 [1, 0] (shapeCast S64x48 w shapeCasts_S64x3x4x4_S64x48) transposes_S64x48_S48x64_1_0

/-- The decoder's weights as the kernel reads them: the flipped taps, a matrix of 48 image entries by 64 channels. -/
def decW (w : FVec Ideal S3x64x4x4 .f32) : FVec Ideal S48x64 .f32 :=
  transpose S48x64 [1, 0] (shapeCast S64x48 (transpose S64x3x4x4 [1, 0, 2, 3] (Host.reverse [2, 3] w)
    transposes_S3x64x4x4_S64x3x4x4_1_0_2_3) shapeCasts_S64x3x4x4_S64x48) transposes_S64x48_S48x64_1_0

/-- The decoder's bias as the kernel reads it: each channel's bias sixteen times. -/
def decB (b : FVec Ideal S3 .f32) : FVec Ideal S48x1 .f32 :=
  shapeCast S48x1 (shapeCast S48 (broadcastInDim S3x16 ![0] bcast_S3_S3x16_0 b) shapeCasts_S3x16_S48) shapeCasts_S48_S48x1

/-- The kernel's weight matrix at an index. -/
theorem encW_apply (w : FVec Ideal S64x3x4x4 .f32) (k : Fin 48) (d : Fin 64) :
    encW w (ix2 k d) = w (ix4 d ⟨k.val / 16, by omega⟩ ⟨k.val / 4 % 4, by omega⟩ ⟨k.val % 4, by omega⟩) := by
  pointwise [encW]

/-- A pixel's row of latents in the kernel is the reference's. -/
theorem rowZ_eq (x : FVec Ideal S8x3x224x224 .f32) (w : FVec Ideal S64x3x4x4 .f32) (b : FVec Ideal S64 .f32)
    (n : Fin 8) (p : Fin 3136) (d : Fin 64) :
    rowZ (encW w) (shapeCast S1x64 b shapeCasts_S64_S1x64) (patch x n p) d
      = refZ x w b (ix4 n d ⟨p.val / 56, by omega⟩ ⟨p.val % 56, by omega⟩) := by
  rw [Cert.ReferenceIdeal.Vq.refZ_apply]
  unfold rowZ patch
  simp only [encW_apply]
  pointwise
  simp only [mul_comm]

/-- Arrays of four axes that agree at every four coordinates are equal. -/
theorem ext4 {α : Type} {a b c d : Nat} (f g : (⟨4, ![a, b, c, d]⟩ : Shape).Idx → α) (h : ∀ i j k l, f (ix4 i j k l) = g (ix4 i j k l)) :
    f = g := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact h _ _ _ _

/-- The kernel's latents are the reference's. -/
theorem latents_eq (x : FVec Ideal S8x3x224x224 .f32) (w : FVec Ideal S64x3x4x4 .f32) (b : FVec Ideal S64 .f32) :
    shapeCast S8x64x56x56 (latents (encW w) (shapeCast S1x64 b shapeCasts_S64_S1x64) x) shapeCasts_S8x64x3136_S8x64x56x56 = refZ x w b := by
  refine ext4 _ _ fun n d p q => ?_
  have hr := rowZ_eq x w b n ⟨p.val * 56 + q.val, by omega⟩ d
  have e1 : (p.val * 56 + q.val) / 56 = p.val := by omega
  have e2 : (p.val * 56 + q.val) % 56 = q.val := by omega
  simp only [e1, e2] at hr
  rw [← hr]
  pointwise [latents]

/-- The kernel's chosen rows are the reference's. -/
theorem rows_eq (x : FVec Ideal S8x3x224x224 .f32) (w : FVec Ideal S64x3x4x4 .f32) (b : FVec Ideal S64 .f32) (e : FVec Ideal S1024x64 .f32) :
    rows (encW w) (shapeCast S1x64 b shapeCasts_S64_S1x64) e x = refTake e (refIdx (refDist (refFlat (refZ x w b)) e)) := by
  have key : ∀ (n : Fin 8) (p : Fin 3136) (d : Fin 64),
      rows (encW w) (shapeCast S1x64 b shapeCasts_S64_S1x64) e x (ix2 ⟨n.val * 3136 + p.val, by omega⟩ d)
        = refTake e (refIdx (refDist (refFlat (refZ x w b)) e)) (ix2 ⟨n.val * 3136 + p.val, by omega⟩ d) := by
    intro n p d
    rw [rows_apply, Cert.ReferenceIdeal.Vq.refRows_apply]
    have hd : rowDist (rowZ (encW w) (shapeCast S1x64 b shapeCasts_S64_S1x64) (patch x n p)) e
        = fun k : Fin 1024 => refDist (refFlat (refZ x w b)) e (ix2 ⟨n.val * 3136 + p.val, by omega⟩ k) := by
      funext j
      rw [Cert.ReferenceIdeal.Vq.refDist_apply]
      simp only [Cert.ReferenceIdeal.Vq.refFlat_apply]
      unfold rowDist
      simp only [rowZ_eq]
    exact congrArg (fun f : Fin 1024 → EReal => e (ix2 (first f) d)) hd
  funext i
  have hi : i = ix2 ⟨(i 0).val / 3136 * 3136 + (i 0).val % 3136, by have h : (i 0).val < 25088 := (i 0).isLt; omega⟩ (i 1) := by
    funext a
    match a with
    | ⟨0, _⟩ => exact Fin.ext ((Nat.div_add_mod' _ _).symm)
    | ⟨1, _⟩ => rfl
  rw [hi]
  exact key ⟨(i 0).val / 3136, by have h : (i 0).val < 25088 := (i 0).isLt; omega⟩ ⟨(i 0).val % 3136, by omega⟩ (i 1)

/-- A value that is a real number: neither infinity. -/
def IsReal (a : EReal) : Prop := ∃ r : ℝ, a = (r : EReal)

/-- Adding back what was taken away gives the value, whatever it is, where the amount is real. -/
theorem add_sub_of_real (z q : EReal) (h : IsReal z) : z + (q - z) = q := by
  obtain ⟨r, rfl⟩ := h
  induction q using EReal.rec with
  | bot => simp
  | coe a => rw [← EReal.coe_sub, ← EReal.coe_add, add_sub_cancel]
  | top => simp

/-- A value whose magnitude is below positive infinity is real. -/
theorem isReal_of_absf (a : EReal) (h : Ideal.cmp .olt (max a (-a)) ⊤ = 1#1) : IsReal a := by
  induction a using EReal.rec with
  | bot => simp [Ideal.cmp] at h
  | coe r => exact ⟨r, rfl⟩
  | top => simp [Ideal.cmp] at h

/-- The latents of real images, weights and biases are real. -/
theorem refZ_real (x : FVec Ideal S8x3x224x224 .f32) (w : FVec Ideal S64x3x4x4 .f32) (b : FVec Ideal S64 .f32)
    (hx : ∀ i, IsReal (x i)) (hw : ∀ i, IsReal (w i)) (hb : ∀ i, IsReal (b i)) (n : Fin 8) (d : Fin 64) (p q : Fin 56) :
    IsReal (refZ x w b (ix4 n d p q)) := by
  have hadd : ∀ a c : EReal, IsReal a → IsReal c → IsReal (a + c) := by
    rintro _ _ ⟨r, rfl⟩ ⟨s, rfl⟩; exact ⟨r + s, (EReal.coe_add r s).symm⟩
  have hmul : ∀ a c : EReal, IsReal a → IsReal c → IsReal (a * c) := by
    rintro _ _ ⟨r, rfl⟩ ⟨s, rfl⟩; exact ⟨r * s, (EReal.coe_mul r s).symm⟩
  have hmax : ∀ a : EReal, IsReal a → IsReal (max a 0) := by
    intro a ha
    rcases max_choice a 0 with h | h <;> rw [h]
    · exact ha
    · exact ⟨0, rfl⟩
  rw [Cert.ReferenceIdeal.Vq.refZ_apply]
  exact hmax _ (hadd _ _ (Finset.sum_induction _ IsReal hadd ⟨0, rfl⟩ fun k _ => hmul _ _ (hw _) (hx _)) (hb _))

/-- The kernel's decoder weights at an index. -/
theorem decW_apply (w : FVec Ideal S3x64x4x4 .f32) (c : Fin 3) (u v : Fin 4) (d : Fin 64) :
    decW w (ix2 ⟨c.val * 16 + u.val * 4 + v.val, by omega⟩ d) = Host.reverse [2, 3] w (ix4 c d u v) := by
  pointwise [decW]

/-- The chosen rows read as planes of pixels and as images are the same numbers. -/
theorem planes_apply (R : FVec Ideal S25088x64 .f32) (n : Fin 8) (d : Fin 64) (p q : Fin 56) :
    shapeCast S8x64x3136 R shapeCasts_S25088x64_S8x64x3136 (ix3 n d ⟨p.val * 56 + q.val, by omega⟩)
      = shapeCast S8x64x56x56 R shapeCasts_S25088x64_S8x64x56x56 (ix4 n d p q) := by
  have e1 : n.val * 3136 + d.val * 49 + (p.val * 56 + q.val) / 64 = (n.val * 200704 + d.val * 3136 + p.val * 56 + q.val) / 64 := by omega
  have e2 : (p.val * 56 + q.val) % 64 = (n.val * 200704 + d.val * 3136 + p.val * 56 + q.val) % 64 := by omega
  pointwise
  simp only [e1, e2]

/-- The kernel's decoder bias at an index. -/
theorem decB_apply (b : FVec Ideal S3 .f32) (c : Fin 3) (u v : Fin 4) :
    decB b (ix2 ⟨c.val * 16 + u.val * 4 + v.val, by omega⟩ 0) = b (ix1 c) := by
  pointwise [decB]

/-- The kernel's image is the reference's, where the latents are real: the straight-through step then gives the chosen rows back. -/
theorem image_eq (R : FVec Ideal S25088x64 .f32) (z : FVec Ideal S8x64x56x56 .f32) (w : FVec Ideal S3x64x4x4 .f32) (b : FVec Ideal S3 .f32)
    (hz : ∀ (n : Fin 8) (d : Fin 64) (p q : Fin 56), IsReal (z (ix4 n d p q))) :
    image (decW w) (shapeCast S8x64x3136 R shapeCasts_S25088x64_S8x64x3136) (decB b)
      = refOut z (shapeCast S8x64x56x56 R shapeCasts_S25088x64_S8x64x56x56) w b := by
  refine ext4 _ _ fun n c i j => ?_
  rw [Cert.ReferenceIdeal.Vq.refOut_apply]
  show decAt (decW w) (shapeCast S8x64x3136 R shapeCasts_S25088x64_S8x64x3136) (decB b) n c i j = _
  unfold decAt
  refine Ideal.add_congr (Finset.sum_congr rfl fun d _ => Ideal.mul_congr ?_ ?_) ?_
  · exact decW_apply w c ⟨i.val % 4, by omega⟩ ⟨j.val % 4, by omega⟩ d
  · rw [add_sub_of_real _ _ (hz _ _ _ _)]
    exact planes_apply R n d ⟨i.val / 4, by omega⟩ ⟨j.val / 4, by omega⟩
  · exact decB_apply b c ⟨i.val % 4, by omega⟩ ⟨j.val % 4, by omega⟩

/-- Arrays that the precondition admits hold real numbers where it looks. -/
theorem real_of_finite (x : FVec Ideal S8x3x224x224 .f32) (w : FVec Ideal S64x3x4x4 .f32) (b : FVec Ideal S64 .f32)
    (e : FVec Ideal S1024x64 .f32) (wd : FVec Ideal S3x64x4x4 .f32) (bd : FVec Ideal S3 .f32)
    (hx : (Cert.Pre_finite.fn (F := Ideal) x w b e wd bd).1 = fun _ => 1#1)
    (hw : (Cert.Pre_finite.fn (F := Ideal) x w b e wd bd).2.1 = fun _ => 1#1)
    (hb : (Cert.Pre_finite.fn (F := Ideal) x w b e wd bd).2.2 = fun _ => 1#1) :
    (∀ i, IsReal (x i)) ∧ (∀ i, IsReal (w i)) ∧ (∀ i, IsReal (b i)) := by
  have ht : Ideal.ofBits .f32 0x7F800000#32 = ⊤ := ofBits_inf
  refine ⟨fun i => ?_, fun i => ?_, fun i => ?_⟩
  · have h : Ideal.cmp .olt (max (x i : EReal) (-(x i : EReal))) (Ideal.ofBits .f32 0x7F800000#32) = 1#1 := congrFun hx i
    rw [ht] at h
    exact isReal_of_absf _ h
  · have h : Ideal.cmp .olt (max (w i : EReal) (-(w i : EReal))) (Ideal.ofBits .f32 0x7F800000#32) = 1#1 := congrFun hw i
    rw [ht] at h
    exact isReal_of_absf _ h
  · have h : Ideal.cmp .olt (max (b i : EReal) (-(b i : EReal))) (Ideal.ofBits .f32 0x7F800000#32) = 1#1 := congrFun hb i
    rw [ht] at h
    exact isReal_of_absf _ h

variable (m : (ℓ : Loc nD τ sig) → Buf (Elt Ideal) ℓ) (ρ : Dev nD → PrngReg)

/-- The latents the kernel returns. -/
theorem z_value (c : Dev nD) : W4 m ρ c (Proc.devRef .tc main_v12)
    = refZ (m ((c : Thread nD τ).loc main_arg0)) (m ((c : Thread nD τ).loc main_arg1)) (m ((c : Thread nD τ).loc main_arg2)) := by
  rw [W4_z, latents_final, V1_w, V1_b, V1_x]
  exact latents_eq _ _ _

/-- The first kernel's chosen rows. -/
theorem rows_value (c : Dev nD) : (dat0 (V1 m ρ) c).arrAt 5 cfg0.N
    = refTake (m ((c : Thread nD τ).loc main_arg3)) (refIdx (refDist (refFlat (refZ (m ((c : Thread nD τ).loc main_arg0))
        (m ((c : Thread nD τ).loc main_arg1)) (m ((c : Thread nD τ).loc main_arg2)))) (m ((c : Thread nD τ).loc main_arg3)))) := by
  rw [rows_final, V1_w, V1_b, V1_x, V1_e]
  exact rows_eq _ _ _ _

/-- The chosen rows the kernel returns. -/
theorem zq_value (c : Dev nD) : W4 m ρ c (Proc.devRef .tc main_v11)
    = refZq (refZ (m ((c : Thread nD τ).loc main_arg0)) (m ((c : Thread nD τ).loc main_arg1)) (m ((c : Thread nD τ).loc main_arg2)))
        (m ((c : Thread nD τ).loc main_arg3)) := by
  rw [W4_zq, rows_value]
  rfl

/-- The image the kernel returns, where the latents are real. -/
theorem out_value (c : Dev nD)
    (hz : ∀ (n : Fin 8) (d : Fin 64) (p q : Fin 56), IsReal (refZ (m ((c : Thread nD τ).loc main_arg0))
      (m ((c : Thread nD τ).loc main_arg1)) (m ((c : Thread nD τ).loc main_arg2)) (ix4 n d p q))) :
    W4 m ρ c (Proc.devRef .tc main_v14)
      = refOut (refZ (m ((c : Thread nD τ).loc main_arg0)) (m ((c : Thread nD τ).loc main_arg1)) (m ((c : Thread nD τ).loc main_arg2)))
          (refZq (refZ (m ((c : Thread nD τ).loc main_arg0)) (m ((c : Thread nD τ).loc main_arg1)) (m ((c : Thread nD τ).loc main_arg2)))
            (m ((c : Thread nD τ).loc main_arg3)))
          (m ((c : Thread nD τ).loc main_arg4)) (m ((c : Thread nD τ).loc main_arg5)) := by
  rw [W4_out, image_final, V3_w, V3_zt, V3_b, rows_value]
  exact image_eq _ _ _ _ hz

end Cert.KernelIdeal.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_latents
public import proofs.«01_k».proof.Proof.Vq.KernelRun
public import proofs.«01_k».proof.Proof.Vq.RefRun
public import proofs.«01_k».proof.Proof.Vq.Compare
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.ReferenceIdeal.Vq (zOf zqOf outOf)

/-- The reference runs, leaves its arguments as they were, and has no semaphore to leave off zero. -/
theorem reference_frame : Cert.quiescent_ReferenceIdeal := fun m ρ _ =>
  (θ_run (Cert.ReferenceIdeal.defs (F := Ideal)) _ _).mono
    (fun r h => ⟨fun c => (h c).2.2.2, sem_eq_zero_of_no_sems (by decide) r.2⟩) (Cert.ReferenceIdeal.Vq.run m ρ)

section Kernel
open Cert.KernelIdeal Cert.KernelIdeal.Vq Cert.KernelIdeal.Gen

/-- The kernel's run: its results are what the last segment leaves, its arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_v12) = W4 m ρ c (Proc.devRef .tc main_v12)
      ∧ r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c =>
    ⟨h c _ (mem_uc main_v14 (by decide)), h c _ (mem_uc main_v12 (by decide)), h c _ (mem_uc main_v11 (by decide)),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c),
      (h c _ (mem_uc main_arg4 (by decide))).trans (W4_main_arg4 m ρ c), (h c _ (mem_uc main_arg5 (by decide))).trans (W4_main_arg5 m ρ c)⟩)
    (run_boundary m ρ)

end Kernel

/-- On memories that agree on the arguments the kernel's latents are the reference's. -/
theorem z_eq (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    zOf m' c = KernelIdeal.Gen.W4 m g c (Proc.devRef .tc KernelIdeal.main_v12) := by
  rw [KernelIdeal.Vq.z_value, ← h0, ← h1, ← h2]
  rfl

/-- On memories that agree on the arguments the kernel's chosen rows are the reference's. -/
theorem zq_eq (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3)) :
    zqOf m' c = KernelIdeal.Gen.W4 m g c (Proc.devRef .tc KernelIdeal.main_v11) := by
  rw [KernelIdeal.Vq.zq_value, ← h0, ← h1, ← h2, ← h3]
  rfl

/-- On finite images, encoder weights and encoder biases all three results of the kernel are the reference's. -/
theorem value_finite : Cert.algebraic_KernelIdeal_ReferenceIdeal_pre_finite := by
  intro m g m' g' hpre hagree
  refine ⟨_, _, _, kernel_run m g, (θ_run (ReferenceIdeal.defs (F := Ideal)) _ _).mono (fun r h c => ?_) (ReferenceIdeal.Vq.run m' g')⟩
  obtain ⟨h0, h1, h2, h3, h4, h5⟩ := hagree c
  obtain ⟨hx, hw, hb⟩ := hpre c
  obtain ⟨rx, rw', rb⟩ := KernelIdeal.Vq.real_of_finite _ _ _ _ _ _ hx hw hb
  refine ⟨(h c).1.trans ?_, (h c).2.1.trans (z_eq m g m' c h0 h1 h2), (h c).2.2.1.trans (zq_eq m g m' c h0 h1 h2 h3), (h c).2.2.2⟩
  rw [KernelIdeal.Vq.out_value m g c (KernelIdeal.Vq.refZ_real _ _ _ rx rw' rb), ← h0, ← h1, ← h2, ← h3, ← h4, ← h5]
  rfl

/-- On all arguments the latents and the chosen rows of the kernel are the reference's. -/
theorem value_latents : Cert.algebraic_KernelIdeal_ReferenceIdeal_on_latents := by
  intro m g m' g' _ hagree
  refine ⟨fun c => KernelIdeal.Gen.W4 m g c (Proc.devRef .tc KernelIdeal.main_v14), fun c => KernelIdeal.Gen.W4 m g c (Proc.devRef .tc KernelIdeal.main_v12),
    fun c => KernelIdeal.Gen.W4 m g c (Proc.devRef .tc KernelIdeal.main_v11),
    (θ_run (KernelIdeal.defs (F := Ideal)) _ _).mono (fun r h c => ?_) (kernel_run m g),
    (θ_run (ReferenceIdeal.defs (F := Ideal)) _ _).mono (fun r h c => ?_) (ReferenceIdeal.Vq.run m' g')⟩
  · exact ⟨fun i _ => congrFun (h c).1 i, fun i _ => congrFun (h c).2.1 i, fun i _ => congrFun (h c).2.2.1 i, (h c).2.2.2⟩
  · obtain ⟨h0, h1, h2, h3, h4, h5⟩ := hagree c
    refine ⟨fun i hi => absurd (show (0#1 : BitVec 1) = 1#1 from hi) (by decide),
      fun i _ => congrFun ((h c).2.1.trans (z_eq m g m' c h0 h1 h2)) i,
      fun i _ => congrFun ((h c).2.2.1.trans (zq_eq m g m' c h0 h1 h2 h3)) i, (h c).2.2.2⟩

/-- Everything that is claimed. -/
theorem claim : Cert.Claim :=
  ⟨Cert.Kernel.Gen.facts, Cert.KernelIdeal.Gen.facts, Cert.ReferenceIdeal.Gen.facts, Cert.Pre_finite.Gen.facts, Cert.On_latents.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, value_finite, value_latents⟩

end Cert.Proof

end
